-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_finite_and_labels_in_range [hPre_one_finite_and_labels_in_range : Cert.Pre_one_finite_and_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_one_finite_and_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_one_finite_and_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_finite_and_labels_in_range [hPre_one_finite_and_labels_in_range : Cert.Pre_one_finite_and_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_finite_and_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_one_finite_and_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_one_finite_and_labels_in_range [hKernelIdeal : Cert.KernelIdeal.Facts] [hPre_one_finite_and_labels_in_range : Cert.Pre_one_finite_and_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_finite_and_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_one_finite_and_labels_in_range [hReferenceIdeal : Cert.ReferenceIdeal.Facts] [hPre_one_finite_and_labels_in_range : Cert.Pre_one_finite_and_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_finite_and_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_temp" .f32 0x41A00000#32 ((268435456 / 13421773 : ℝ) : EReal)

def algebraic_KernelIdeal_ReferenceIdeal_pre_one_finite_and_labels_in_range [hKernelIdeal : Cert.KernelIdeal.Facts] [hReferenceIdeal : Cert.ReferenceIdeal.Facts] [hPre_one_finite_and_labels_in_range : Cert.Pre_one_finite_and_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_finite_and_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_one_finite_and_labels_in_range : Cert.Pre_one_finite_and_labels_in_range.Facts),
    quiescent_Kernel (hKernel := hKernel)
    ∧ quiescent_KernelIdeal (hKernelIdeal := hKernelIdeal)
    ∧ quiescent_KernelIdeal_pre_one_finite_and_labels_in_range (hKernelIdeal := hKernelIdeal) (hPre_one_finite_and_labels_in_range := hPre_one_finite_and_labels_in_range)
    ∧ quiescent_ReferenceIdeal (hReferenceIdeal := hReferenceIdeal)
    ∧ quiescent_ReferenceIdeal_pre_one_finite_and_labels_in_range (hReferenceIdeal := hReferenceIdeal) (hPre_one_finite_and_labels_in_range := hPre_one_finite_and_labels_in_range)
    ∧ preserves_Kernel_KernelIdeal
    ∧ algebraic_KernelIdeal_ReferenceIdeal_pre_one_finite_and_labels_in_range (hKernelIdeal := hKernelIdeal) (hReferenceIdeal := hReferenceIdeal) (hPre_one_finite_and_labels_in_range := hPre_one_finite_and_labels_in_range)
-- ==== Pre_one_finite_and_labels_in_range.lean ====
abbrev S32x4096 : Shape := ⟨2, ![32, 4096]⟩
abbrev S1x32x2 : Shape := ⟨3, ![1, 32, 2]⟩
abbrev S18048x4096 : Shape := ⟨2, ![18048, 4096]⟩
abbrev S1x32x1 : Shape := ⟨3, ![1, 32, 1]⟩
abbrev S1x32 : Shape := ⟨2, ![1, 32]⟩
abbrev S_ : Shape := ⟨0, ![]⟩

class Facts : Prop where
  slices_S1x32x2_S1x32x1_0_0_0 : S1x32x2.Slices ![0, 0, 0] S1x32x1
  shapeCasts_S1x32x1_S1x32 : S1x32x1.ShapeCasts S1x32
  bcast_S_S32x4096 : S_.BroadcastsInDim S32x4096 (![] : Fin 0 → Fin S32x4096.rank)
  reducesTo_S32x4096_S_d0_1 : S32x4096.ReducesTo [0, 1] S_
  h_S_ : 0 < S_.numel
  bcast_S_S1x32 : S_.BroadcastsInDim S1x32 (![] : Fin 0 → Fin S1x32.rank)

variable [Facts]

def fn {F : FTy → Type} [FloatOps F] (main_arg0 : FVec F S32x4096 .f32) (main_arg1 : FVec F S32x4096 .f32) (main_arg2 : FVec F S32x4096 .f32) (main_arg3 : IVec S1x32x2 32) (main_arg4 : FVec F S18048x4096 .f32) : IVec S_ 1 × IVec S1x32 1 :=
  let main_v0 : IVec S1x32x1 32 := (extractStridedSlice S1x32x1 ![0, 0, 0] · slices_S1x32x2_S1x32x1_0_0_0) main_arg3
  let main_v1 : IVec S1x32 32 := shapeCast S1x32 main_v0 shapeCasts_S1x32x1_S1x32
  let main_v2 : FVec F S32x4096 .f32 := Host.absf main_arg1
  let main_cst : FVec F S_ .f32 := constant S_ .f32 0x7F800000#32
  let main_v3 : FVec F S32x4096 .f32 := broadcastInDim S32x4096 ![] bcast_S_S32x4096 main_cst
  let main_v4 : IVec S32x4096 1 := cmpf .olt main_v2 main_v3
  let main_c : IVec S_ 1 := constantI S_ 1 1#1
  let main_v5 : IVec S_ 1 := (fun x v => Host.reduce IntOp.andi x v reducesTo_S32x4096_S_d0_1 h_S_) main_v4 main_c
  let main_v6 : FVec F S32x4096 .f32 := Host.absf main_arg2
  let main_cst_0 : FVec F S_ .f32 := constant S_ .f32 0x7F800000#32
  let main_v7 : FVec F S32x4096 .f32 := broadcastInDim S32x4096 ![] bcast_S_S32x4096 main_cst_0
  let main_v8 : IVec S32x4096 1 := cmpf .olt main_v6 main_v7
  let main_c_1 : IVec S_ 1 := constantI S_ 1 1#1
  let main_v9 : IVec S_ 1 := (fun x v => Host.reduce IntOp.andi x v reducesTo_S32x4096_S_d0_1 h_S_) main_v8 main_c_1
  let main_v10 : IVec S_ 1 := ori main_v5 main_v9
  let main_c_2 : IVec S_ 32 := constantI S_ 32 0#32
  let main_v11 : IVec S1x32 32 := broadcastInDim S1x32 ![] bcast_S_S1x32 main_c_2
  let main_v12 : IVec S1x32 1 := cmpi .sge main_v1 main_v11
  let main_c_3 : IVec S_ 32 := constantI S_ 32 18048#32
  let main_v13 : IVec S1x32 32 := broadcastInDim S1x32 ![] bcast_S_S1x32 main_c_3
  let main_v14 : IVec S1x32 1 := cmpi .slt main_v1 main_v13
  let main_v15 : IVec S1x32 1 := andi main_v12 main_v14
  (main_v10, main_v15)
-- ==== Kernel.lean ====
abbrev S32x4096 : Shape := ⟨2, ![32, 4096]⟩
abbrev S1x32x2 : Shape := ⟨3, ![1, 32, 2]⟩
abbrev S18048x4096 : Shape := ⟨2, ![18048, 4096]⟩
abbrev S1x32x1 : Shape := ⟨3, ![1, 32, 1]⟩
abbrev S1x32 : Shape := ⟨2, ![1, 32]⟩
abbrev S32x1 : Shape := ⟨2, ![32, 1]⟩
abbrev S1x1 : Shape := ⟨2, ![1, 1]⟩
abbrev S_ : Shape := ⟨0, ![]⟩
abbrev S752x4096 : Shape := ⟨2, ![752, 4096]⟩
abbrev S32 : Shape := ⟨1, ![32]⟩
abbrev S1 : Shape := ⟨1, ![1]⟩
abbrev S32x32 : Shape := ⟨2, ![32, 32]⟩
abbrev S1x32x32 : Shape := ⟨3, ![1, 32, 32]⟩
abbrev S1x1x1 : Shape := ⟨3, ![1, 1, 1]⟩
abbrev S32x752 : Shape := ⟨2, ![32, 752]⟩

abbrev nBuf : Space → Nat
  | .hbm => 10
  | .vmem => 10
  | .smem => 0
  | _ => 0

abbrev bufTy : (tb : Table) → Fin (tcTables nBuf tb) → BufTy
  | .hbm, ⟨0, _⟩ => ⟨S32x4096, .f32⟩
  | .hbm, ⟨1, _⟩ => ⟨S32x4096, .f32⟩
  | .hbm, ⟨2, _⟩ => ⟨S32x4096, .f32⟩
  | .hbm, ⟨3, _⟩ => ⟨S1x32x2, .i32⟩
  | .hbm, ⟨4, _⟩ => ⟨S18048x4096, .f32⟩
  | .hbm, ⟨5, _⟩ => ⟨S1x32x1, .i32⟩
  | .hbm, ⟨6, _⟩ => ⟨S1x32, .i32⟩
  | .hbm, ⟨7, _⟩ => ⟨S32x1, .i32⟩
  | .hbm, ⟨8, _⟩ => ⟨S1x1, .f32⟩
  | .hbm, ⟨9, _⟩ => ⟨S_, .f32⟩
  | .local _ .vmem, ⟨0, _⟩ => ⟨S32x1, .i32⟩
  | .local _ .vmem, ⟨1, _⟩ => ⟨S32x4096, .f32⟩
  | .local _ .vmem, ⟨2, _⟩ => ⟨S32x4096, .f32⟩
  | .local _ .vmem, ⟨3, _⟩ => ⟨S32x4096, .f32⟩
  | .local _ .vmem, ⟨4, _⟩ => ⟨S752x4096, .f32⟩
  | .local _ .vmem, ⟨5, _⟩ => ⟨S752x4096, .f32⟩
  | .local _ .vmem, ⟨6, _⟩ => ⟨S1x1, .f32⟩
  | .local _ .vmem, ⟨7, _⟩ => ⟨S32x1, .f32⟩
  | .local _ .vmem, ⟨8, _⟩ => ⟨S32x1, .f32⟩
  | .local _ .vmem, ⟨9, _⟩ => ⟨S1x1, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6

abbrev nD : Nat := 1
abbrev τ : Topo := Topo.v7x

variable {F : FTy → Type} [FloatOps F]

abbrev grid0 : Pipeline.Grid := ⟨1, ![24], ![false]⟩

def k0_cond2 (i : grid0.Coords) : BitVec 1 :=
  let arg0 : BitVec 32 := BitVec.ofNat 32 (i 0).val
  let c23_i32 : BitVec 32 := 23#32
  let v33 : BitVec 1 := Scalar.cmpi .eq arg0 c23_i32
  let v34 : BitVec 32 := Scalar.extui v33
  let c0_i32_18 : BitVec 32 := 0#32
  let v35 : BitVec 1 := Scalar.cmpi .ne v34 c0_i32_18
  v35

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S752x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "inv_temp" => some ((268435456 / 13421773 : ℝ) : EReal)
  | _ => none
-- ==== ReferenceIdeal.lean ====
abbrev S32x4096 : Shape := ⟨2, ![32, 4096]⟩
abbrev S1x32x2 : Shape := ⟨3, ![1, 32, 2]⟩
abbrev S18048x4096 : Shape := ⟨2, ![18048, 4096]⟩
abbrev S1x32x1 : Shape := ⟨3, ![1, 32, 1]⟩
abbrev S1x32 : Shape := ⟨2, ![1, 32]⟩
abbrev S32 : Shape := ⟨1, ![32]⟩
abbrev S18048 : Shape := ⟨1, ![18048]⟩
abbrev S4096x18048 : Shape := ⟨2, ![4096, 18048]⟩
abbrev S32x18048 : Shape := ⟨2, ![32, 18048]⟩
abbrev S_ : Shape := ⟨0, ![]⟩
abbrev S32x1 : Shape := ⟨2, ![32, 1]⟩
abbrev S32x32 : Shape := ⟨2, ![32, 32]⟩
abbrev S4096x32 : Shape := ⟨2, ![4096, 32]⟩
abbrev S18048x32 : Shape := ⟨2, ![18048, 32]⟩
abbrev S18048x1 : Shape := ⟨2, ![18048, 1]⟩
abbrev S32x1x1 : Shape := ⟨3, ![32, 1, 1]⟩
abbrev S1 : Shape := ⟨1, ![1]⟩
abbrev S1x1x1 : Shape := ⟨3, ![1, 1, 1]⟩

abbrev nBuf : Space → Nat
  | .hbm => 265
  | .vmem => 0
  | .smem => 0
  | _ => 0

abbrev hbmTy0_0 (i : Nat) : BufTy := match i % 128 with
  | 0 => ⟨S32x4096, .f32⟩
  | 1 => ⟨S32x4096, .f32⟩
  | 2 => ⟨S32x4096, .f32⟩
  | 3 => ⟨S1x32x2, .i32⟩
  | 4 => ⟨S18048x4096, .f32⟩
  | 5 => ⟨S1x32x1, .i32⟩
  | 6 => ⟨S1x32, .i32⟩
  | 7 => ⟨S32, .i32⟩
  | 8 => ⟨S18048, .i32⟩
  | 9 => ⟨S4096x18048, .f32⟩
  | 10 => ⟨S32x18048, .f32⟩
  | 11 => ⟨S_, .i32⟩
  | 12 => ⟨S32, .i32⟩
  | 13 => ⟨S32, .i1⟩
  | 14 => ⟨S_, .i32⟩
  | 15 => ⟨S32, .i32⟩
  | 16 => ⟨S32, .i32⟩
  | 17 => ⟨S32, .i32⟩
  | 18 => ⟨S32x1, .i32⟩
  | 19 => ⟨S32, .i32⟩
  | 20 => ⟨S32x32, .i32⟩
  | 21 => ⟨S32x32, .i32⟩
  | 22 => ⟨S_, .i32⟩
  | 23 => ⟨S32x32, .i32⟩
  | 24 => ⟨S32x32, .i32⟩
  | 25 => ⟨S32x32, .i1⟩
  | 26 => ⟨S4096x32, .f32⟩
  | 27 => ⟨S32x32, .f32⟩
  | 28 => ⟨S_, .f32⟩
  | 29 => ⟨S_, .f32⟩
  | 30 => ⟨S32x32, .f32⟩
  | 31 => ⟨S32x32, .f32⟩
  | 32 => ⟨S_, .f32⟩
  | 33 => ⟨S32, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S4096x32, .f32⟩
  | 41 => ⟨S32x32, .f32⟩
  | 42 => ⟨S4096x32, .f32⟩
  | 43 => ⟨S32x32, .f32⟩
  | 44 => ⟨S_, .f32⟩
  | 45 => ⟨S32, .f32⟩
  | 46 => ⟨S_, .f32⟩
  | 47 => ⟨S32, .f32⟩
  | 48 => ⟨S32, .f32⟩
  | 49 => ⟨S32x1, .f32⟩
  | 50 => ⟨S32x32, .f32⟩
  | 51 => ⟨S32x32, .f32⟩
  | 52 => ⟨S32x32, .f32⟩
  | 53 => ⟨S_, .f32⟩
  | 54 => ⟨S32, .f32⟩
  | 55 => ⟨S32x1, .f32⟩
  | 56 => ⟨S32x1, .f32⟩
  | 57 => ⟨S32x32, .f32⟩
  | 58 => ⟨S32x32, .f32⟩
  | 59 => ⟨S_, .f32⟩
  | 60 => ⟨S32, .f32⟩
  | 61 => ⟨S_, .f32⟩
  | 62 => ⟨S32, .f32⟩
  | 63 => ⟨S32, .f32⟩
  | 64 => ⟨S32x1, .f32⟩
  | 65 => ⟨S32x32, .f32⟩
  | 66 => ⟨S32x32, .f32⟩
  | 67 => ⟨S32x32, .f32⟩
  | 68 => ⟨S_, .f32⟩
  | 69 => ⟨S32, .f32⟩
  | 70 => ⟨S32x1, .f32⟩
  | 71 => ⟨S32x1, .f32⟩
  | 72 => ⟨S32x32, .f32⟩
  | 73 => ⟨S32x32, .f32⟩
  | 74 => ⟨S_, .f32⟩
  | 75 => ⟨S32, .f32⟩
  | 76 => ⟨S_, .f32⟩
  | 77 => ⟨S32, .f32⟩
  | 78 => ⟨S32, .f32⟩
  | 79 => ⟨S32x1, .f32⟩
  | 80 => ⟨S32x32, .f32⟩
  | 81 => ⟨S32x32, .f32⟩
  | 82 => ⟨S32x32, .f32⟩
  | 83 => ⟨S_, .f32⟩
  | 84 => ⟨S32, .f32⟩
  | 85 => ⟨S32x1, .f32⟩
  | 86 => ⟨S32x32, .f32⟩
  | 87 => ⟨S32x32, .f32⟩
  | 88 => ⟨S_, .f32⟩
  | 89 => ⟨S32, .f32⟩
  | 90 => ⟨S_, .f32⟩
  | 91 => ⟨S32, .f32⟩
  | 92 => ⟨S32, .f32⟩
  | 93 => ⟨S32x1, .f32⟩
  | 94 => ⟨S32x32, .f32⟩
  | 95 => ⟨S32x32, .f32⟩
  | 96 => ⟨S32x32, .f32⟩
  | 97 => ⟨S_, .f32⟩
  | 98 => ⟨S32, .f32⟩
  | 99 => ⟨S32x1, .f32⟩
  | 100 => ⟨S32x32, .f32⟩
  | 101 => ⟨S32x32, .f32⟩
  | 102 => ⟨S32x32, .f32⟩
  | 103 => ⟨S32x32, .f32⟩
  | 104 => ⟨S32x32, .f32⟩
  | 105 => ⟨S_, .f32⟩
  | 106 => ⟨S_, .f32⟩
  | 107 => ⟨S32x32, .f32⟩
  | 108 => ⟨S32x32, .f32⟩
  | 109 => ⟨S32x32, .f32⟩
  | 110 => ⟨S_, .f32⟩
  | 111 => ⟨S_, .f32⟩
  | 112 => ⟨S_, .f32⟩
  | 113 => ⟨S32x18048, .f32⟩
  | 114 => ⟨S32x18048, .f32⟩
  | 115 => ⟨S_, .f32⟩
  | 116 => ⟨S18048x32, .f32⟩
  | 117 => ⟨S18048x32, .f32⟩
  | 118 => ⟨S_, .i32⟩
  | 119 => ⟨S18048, .i32⟩
  | 120 => ⟨S18048, .i1⟩
  | 121 => ⟨S_, .i32⟩
  | 122 => ⟨S18048, .i32⟩
  | 123 => ⟨S18048, .i32⟩
  | 124 => ⟨S18048, .i32⟩
  | 125 => ⟨S18048x1, .i32⟩
  | 126 => ⟨S18048x32, .f32⟩
  | 127 => ⟨S_, .f32⟩
  | _ => ⟨S32x4096, .f32⟩

abbrev hbmTy0_1 (i : Nat) : BufTy := match i % 128 with
  | 0 => ⟨S18048x1, .f32⟩
  | 1 => ⟨S_, .f32⟩
  | 2 => ⟨S18048x1, .f32⟩
  | 3 => ⟨S_, .i32⟩
  | 4 => ⟨S18048, .i32⟩
  | 5 => ⟨S18048, .i1⟩
  | 6 => ⟨S_, .i32⟩
  | 7 => ⟨S18048, .i32⟩
  | 8 => ⟨S18048, .i32⟩
  | 9 => ⟨S18048, .i32⟩
  | 10 => ⟨S18048x1, .i32⟩
  | 11 => ⟨S18048x1, .f32⟩
  | 12 => ⟨S18048x32, .f32⟩
  | 13 => ⟨S18048x32, .f32⟩
  | 14 => ⟨S32x18048, .f32⟩
  | 15 => ⟨S_, .f32⟩
  | 16 => ⟨S32, .f32⟩
  | 17 => ⟨S32x1, .f32⟩
  | 18 => ⟨S32x1, .f32⟩
  | 19 => ⟨S_, .f32⟩
  | 20 => ⟨S32x1, .f32⟩
  | 21 => ⟨S32x1, .i1⟩
  | 22 => ⟨S_, .f32⟩
  | 23 => ⟨S_, .f32⟩
  | 24 => ⟨S32x1, .f32⟩
  | 25 => ⟨S32x1, .f32⟩
  | 26 => ⟨S32x18048, .f32⟩
  | 27 => ⟨S32x18048, .f32⟩
  | 28 => ⟨S32x18048, .f32⟩
  | 29 => ⟨S_, .f32⟩
  | 30 => ⟨S32, .f32⟩
  | 31 => ⟨S32x1, .f32⟩
  | 32 => ⟨S32x1, .f32⟩
  | 33 => ⟨S32x1, .f32⟩
  | 34 => ⟨S32, .f32⟩
  | 35 => ⟨S32x1, .i32⟩
  | 36 => ⟨S_, .i32⟩
  | 37 => ⟨S32x1, .i32⟩
  | 38 => ⟨S32x1, .i1⟩
  | 39 => ⟨S_, .i32⟩
  | 40 => ⟨S32x1, .i32⟩
  | 41 => ⟨S32x1, .i32⟩
  | 42 => ⟨S32x1, .i32⟩
  | 43 => ⟨S32x1x1, .i32⟩
  | 44 => ⟨S1, .i32⟩
  | 45 => ⟨S_, .i32⟩
  | 46 => ⟨S32x1x1, .i32⟩
  | 47 => ⟨S32x1x1, .i1⟩
  | 48 => ⟨S1x1x1, .i32⟩
  | 49 => ⟨S32x1x1, .i32⟩
  | 50 => ⟨S32x1x1, .i1⟩
  | 51 => ⟨S32x1x1, .i1⟩
  | 52 => ⟨S_, .i1⟩
  | 53 => ⟨S32x1, .i1⟩
  | 54 => ⟨S32x1, .f32⟩
  | 55 => ⟨S_, .f32⟩
  | 56 => ⟨S32x1, .f32⟩
  | 57 => ⟨S32x1, .f32⟩
  | 58 => ⟨S32, .f32⟩
  | 59 => ⟨S32, .f32⟩
  | 60 => ⟨S_, .f32⟩
  | 61 => ⟨S_, .f32⟩
  | 62 => ⟨S_, .f32⟩
  | 63 => ⟨S_, .f32⟩
  | 64 => ⟨S_, .f32⟩
  | 65 => ⟨S18048x1, .f32⟩
  | 66 => ⟨S_, .f32⟩
  | 67 => ⟨S18048x1, .f32⟩
  | 68 => ⟨S_, .i32⟩
  | 69 => ⟨S18048, .i32⟩
  | 70 => ⟨S18048, .i1⟩
  | 71 => ⟨S_, .i32⟩
  | 72 => ⟨S18048, .i32⟩
  | 73 => ⟨S18048, .i32⟩
  | 74 => ⟨S18048, .i32⟩
  | 75 => ⟨S18048x1, .i32⟩
  | 76 => ⟨S18048x1, .f32⟩
  | 77 => ⟨S_, .f32⟩
  | 78 => ⟨S18048x32, .f32⟩
  | 79 => ⟨S18048x32, .f32⟩
  | 80 => ⟨S18048x32, .f32⟩
  | 81 => ⟨S32x18048, .f32⟩
  | 82 => ⟨S_, .f32⟩
  | 83 => ⟨S32, .f32⟩
  | 84 => ⟨S32x1, .f32⟩
  | 85 => ⟨S32x1, .f32⟩
  | 86 => ⟨S_, .f32⟩
  | 87 => ⟨S32x1, .f32⟩
  | 88 => ⟨S32x1, .i1⟩
  | 89 => ⟨S_, .f32⟩
  | 90 => ⟨S_, .f32⟩
  | 91 => ⟨S32x1, .f32⟩
  | 92 => ⟨S32x1, .f32⟩
  | 93 => ⟨S32x18048, .f32⟩
  | 94 => ⟨S32x18048, .f32⟩
  | 95 => ⟨S32x18048, .f32⟩
  | 96 => ⟨S_, .f32⟩
  | 97 => ⟨S32, .f32⟩
  | 98 => ⟨S32x1, .f32⟩
  | 99 => ⟨S32x1, .f32⟩
  | 100 => ⟨S32x1, .f32⟩
  | 101 => ⟨S32, .f32⟩
  | 102 => ⟨S32x1, .i32⟩
  | 103 => ⟨S_, .i32⟩
  | 104 => ⟨S32x1, .i32⟩
  | 105 => ⟨S32x1, .i1⟩
  | 106 => ⟨S_, .i32⟩
  | 107 => ⟨S32x1, .i32⟩
  | 108 => ⟨S32x1, .i32⟩
  | 109 => ⟨S32x1, .i32⟩
  | 110 => ⟨S32x1x1, .i32⟩
  | 111 => ⟨S1, .i32⟩
  | 112 => ⟨S_, .i32⟩
  | 113 => ⟨S32x1x1, .i32⟩
  | 114 => ⟨S32x1x1, .i1⟩
  | 115 => ⟨S1x1x1, .i32⟩
  | 116 => ⟨S32x1x1, .i32⟩
  | 117 => ⟨S32x1x1, .i1⟩
  | 118 => ⟨S32x1x1, .i1⟩
  | 119 => ⟨S_, .i1⟩
  | 120 => ⟨S32x1, .i1⟩
  | 121 => ⟨S32x1, .f32⟩
  | 122 => ⟨S_, .f32⟩
  | 123 => ⟨S32x1, .f32⟩
  | 124 => ⟨S32x1, .f32⟩
  | 125 => ⟨S32, .f32⟩
  | 126 => ⟨S32, .f32⟩
  | 127 => ⟨S_, .f32⟩
  | _ => ⟨S32x4096, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | _ => ⟨S32x4096, .f32⟩

abbrev hbmTy (i : Nat) : BufTy := match i / 128 with
  | 0 => hbmTy0_0 i
  | 1 => hbmTy0_1 i
  | 2 => hbmTy0_2 i
  | _ => ⟨S32x4096, .f32⟩

abbrev bufTy : (tb : Table) → Fin (tcTables nBuf tb) → BufTy
  | .hbm, ⟨i, _⟩ => hbmTy i
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call1_cst : Ref sig .tc := ⟨.hbm, 44, rfl⟩
abbrev main_call1_v0 : Ref sig .tc := ⟨.hbm, 45, rfl⟩
abbrev main_call1_cst_0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_cst_1 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_v29 : Ref sig .tc := ⟨.hbm, 58, rfl⟩
abbrev main_call2_cst : Ref sig .tc := ⟨.hbm, 59, rfl⟩
abbrev main_call2_v0 : Ref sig .tc := ⟨.hbm, 60, rfl⟩
abbrev main_call2_cst_0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_cst_1 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_v30 : Ref sig .tc := ⟨.hbm, 73, rfl⟩
abbrev main_cst_6 : Ref sig .tc := ⟨.hbm, 74, rfl⟩
abbrev main_v31 : Ref sig .tc := ⟨.hbm, 75, rfl⟩
abbrev main_cst_7 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_cst_8 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_cst_9 : Ref sig .tc := ⟨.hbm, 88, rfl⟩
abbrev main_v42 : Ref sig .tc := ⟨.hbm, 89, rfl⟩
abbrev main_cst_10 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_cst_11 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_12 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_cst_13 : Ref sig .tc := ⟨.hbm, 110, rfl⟩
abbrev main_v60 : Ref sig .tc := ⟨.hbm, 111, rfl⟩
abbrev main_cst_14 : Ref sig .tc := ⟨.hbm, 112, rfl⟩
abbrev main_v61 : Ref sig .tc := ⟨.hbm, 113, rfl⟩
abbrev main_v62 : Ref sig .tc := ⟨.hbm, 114, rfl⟩
abbrev main_cst_15 : Ref sig .tc := ⟨.hbm, 115, rfl⟩
abbrev main_v63 : Ref sig .tc := ⟨.hbm, 116, rfl⟩
abbrev main_v64 : Ref sig .tc := ⟨.hbm, 117, rfl⟩
abbrev main_c_16 : Ref sig .tc := ⟨.hbm, 118, rfl⟩
abbrev main_v65 : Ref sig .tc := ⟨.hbm, 119, rfl⟩
abbrev main_v66 : Ref sig .tc := ⟨.hbm, 120, rfl⟩
abbrev main_c_17 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_cst_18 : Ref sig .tc := ⟨.hbm, 127, rfl⟩
abbrev main_v72 : Ref sig .tc := ⟨.hbm, 128, rfl⟩
abbrev main_cst_19 : Ref sig .tc := ⟨.hbm, 129, rfl⟩
abbrev main_v73 : Ref sig .tc := ⟨.hbm, 130, rfl⟩
abbrev main_c_20 : Ref sig .tc := ⟨.hbm, 131, rfl⟩
abbrev main_v74 : Ref sig .tc := ⟨.hbm, 132, rfl⟩
abbrev main_v75 : Ref sig .tc := ⟨.hbm, 133, rfl⟩
abbrev main_c_21 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_cst_22 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_cst_23 : Ref sig .tc := ⟨.hbm, 147, rfl⟩
abbrev main_v87 : Ref sig .tc := ⟨.hbm, 148, rfl⟩
abbrev main_v88 : Ref sig .tc := ⟨.hbm, 149, rfl⟩
abbrev main_cst_24 : Ref sig .tc := ⟨.hbm, 150, rfl⟩
abbrev main_call3_v0 : Ref sig .tc := ⟨.hbm, 151, rfl⟩
abbrev main_call3_v1 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_cst_25 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_call4_c : Ref sig .tc := ⟨.hbm, 164, rfl⟩
abbrev main_call4_v0 : Ref sig .tc := ⟨.hbm, 165, rfl⟩
abbrev main_call4_v1 : Ref sig .tc := ⟨.hbm, 166, rfl⟩
abbrev main_call4_c_0 : Ref sig .tc := ⟨.hbm, 167, rfl⟩
abbrev main_call4_v2 : Ref sig .tc := ⟨.hbm, 168, rfl⟩
abbrev main_call4_v3 : Ref sig .tc := ⟨.hbm, 169, rfl⟩
abbrev main_call4_v4 : Ref sig .tc := ⟨.hbm, 170, rfl⟩
abbrev main_call4_v5 : Ref sig .tc := ⟨.hbm, 171, rfl⟩
abbrev main_call4_c_1 : Ref sig .tc := ⟨.hbm, 172, rfl⟩
abbrev main_call4_c_2 : Ref sig .tc := ⟨.hbm, 173, rfl⟩
abbrev main_call4_v6 : Ref sig .tc := ⟨.hbm, 174, rfl⟩
abbrev main_call4_v7 : Ref sig .tc := ⟨.hbm, 175, rfl⟩
abbrev main_call4_v8 : Ref sig .tc := ⟨.hbm, 176, rfl⟩
abbrev main_call4_v9 : Ref sig .tc := ⟨.hbm, 177, rfl⟩
abbrev main_call4_v10 : Ref sig .tc := ⟨.hbm, 178, rfl⟩
abbrev main_call4_v11 : Ref sig .tc := ⟨.hbm, 179, rfl⟩
abbrev main_call4_c_3 : Ref sig .tc := ⟨.hbm, 180, rfl⟩
abbrev main_call4_v12 : Ref sig .tc := ⟨.hbm, 181, rfl⟩
abbrev main_call4_v13 : Ref sig .tc := ⟨.hbm, 182, rfl⟩
abbrev main_call4_cst : Ref sig .tc := ⟨.hbm, 183, rfl⟩
abbrev main_call4_v14 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_cst_26 : Ref sig .tc := ⟨.hbm, 188, rfl⟩
abbrev main_v102 : Ref sig .tc := ⟨.hbm, 189, rfl⟩
abbrev main_cst_27 : Ref sig .tc := ⟨.hbm, 190, rfl⟩
abbrev main_v103 : Ref sig .tc := ⟨.hbm, 191, rfl⟩
abbrev main_cst_28 : Ref sig .tc := ⟨.hbm, 192, rfl⟩
abbrev main_v104 : Ref sig .tc := ⟨.hbm, 193, rfl⟩
abbrev main_cst_29 : Ref sig .tc := ⟨.hbm, 194, rfl⟩
abbrev main_v105 : Ref sig .tc := ⟨.hbm, 195, rfl⟩
abbrev main_c_30 : Ref sig .tc := ⟨.hbm, 196, rfl⟩
abbrev main_v106 : Ref sig .tc := ⟨.hbm, 197, rfl⟩
abbrev main_v107 : Ref sig .tc := ⟨.hbm, 198, rfl⟩
abbrev main_c_31 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_cst_32 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_v116 : Ref sig .tc := ⟨.hbm, 209, rfl⟩
abbrev main_cst_33 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_cst_34 : Ref sig .tc := ⟨.hbm, 214, rfl⟩
abbrev main_v120 : Ref sig .tc := ⟨.hbm, 215, rfl⟩
abbrev main_v121 : Ref sig .tc := ⟨.hbm, 216, rfl⟩
abbrev main_cst_35 : Ref sig .tc := ⟨.hbm, 217, rfl⟩
abbrev main_call5_v0 : Ref sig .tc := ⟨.hbm, 218, rfl⟩
abbrev main_call5_v1 : Ref sig .tc := ⟨.hbm, 219, rfl⟩
abbrev main_v122 : Ref sig .tc := ⟨.hbm, 220, rfl⟩
abbrev main_v123 : Ref sig .tc := ⟨.hbm, 221, rfl⟩
abbrev main_v124 : Ref sig .tc := ⟨.hbm, 222, rfl⟩
abbrev main_v125 : Ref sig .tc := ⟨.hbm, 223, rfl⟩
abbrev main_cst_36 : Ref sig .tc := ⟨.hbm, 224, rfl⟩
abbrev main_v126 : Ref sig .tc := ⟨.hbm, 225, rfl⟩
abbrev main_v127 : Ref sig .tc := ⟨.hbm, 226, rfl⟩
abbrev main_v128 : Ref sig .tc := ⟨.hbm, 227, rfl⟩
abbrev main_v129 : Ref sig .tc := ⟨.hbm, 228, rfl⟩
abbrev main_v130 : Ref sig .tc := ⟨.hbm, 229, rfl⟩
abbrev main_v131 : Ref sig .tc := ⟨.hbm, 230, rfl⟩
abbrev main_call6_c : Ref sig .tc := ⟨.hbm, 231, rfl⟩
abbrev main_call6_v0 : Ref sig .tc := ⟨.hbm, 232, rfl⟩
abbrev main_call6_v1 : Ref sig .tc := ⟨.hbm, 233, rfl⟩
abbrev main_call6_c_0 : Ref sig .tc := ⟨.hbm, 234, rfl⟩
abbrev main_call6_v2 : Ref sig .tc := ⟨.hbm, 235, rfl⟩
abbrev main_call6_v3 : Ref sig .tc := ⟨.hbm, 236, rfl⟩
abbrev main_call6_v4 : Ref sig .tc := ⟨.hbm, 237, rfl⟩
abbrev main_call6_v5 : Ref sig .tc := ⟨.hbm, 238, rfl⟩
abbrev main_call6_c_1 : Ref sig .tc := ⟨.hbm, 239, rfl⟩
abbrev main_call6_c_2 : Ref sig .tc := ⟨.hbm, 240, rfl⟩
abbrev main_call6_v6 : Ref sig .tc := ⟨.hbm, 241, rfl⟩
abbrev main_call6_v7 : Ref sig .tc := ⟨.hbm, 242, rfl⟩
abbrev main_call6_v8 : Ref sig .tc := ⟨.hbm, 243, rfl⟩
abbrev main_call6_v9 : Ref sig .tc := ⟨.hbm, 244, rfl⟩
abbrev main_call6_v10 : Ref sig .tc := ⟨.hbm, 245, rfl⟩
abbrev main_call6_v11 : Ref sig .tc := ⟨.hbm, 246, rfl⟩
abbrev main_call6_c_3 : Ref sig .tc := ⟨.hbm, 247, rfl⟩
abbrev main_call6_v12 : Ref sig .tc := ⟨.hbm, 248, rfl⟩
abbrev main_call6_v13 : Ref sig .tc := ⟨.hbm, 249, rfl⟩
abbrev main_call6_cst : Ref sig .tc := ⟨.hbm, 250, rfl⟩
abbrev main_call6_v14 : Ref sig .tc := ⟨.hbm, 251, rfl⟩
abbrev main_v132 : Ref sig .tc := ⟨.hbm, 252, rfl⟩
abbrev main_v133 : Ref sig .tc := ⟨.hbm, 253, rfl⟩
abbrev main_v134 : Ref sig .tc := ⟨.hbm, 254, rfl⟩
abbrev main_cst_37 : Ref sig .tc := ⟨.hbm, 255, rfl⟩
abbrev main_v135 : Ref sig .tc := ⟨.hbm, 256, rfl⟩
abbrev main_cst_38 : Ref sig .tc := ⟨.hbm, 257, rfl⟩
abbrev main_v136 : Ref sig .tc := ⟨.hbm, 258, rfl⟩
abbrev main_v137 : Ref sig .tc := ⟨.hbm, 259, rfl⟩
abbrev main_cst_39 : Ref sig .tc := ⟨.hbm, 260, rfl⟩
abbrev main_v138 : Ref sig .tc := ⟨.hbm, 261, rfl⟩
abbrev main_v139 : Ref sig .tc := ⟨.hbm, 262, rfl⟩
abbrev main_v140 : Ref sig .tc := ⟨.hbm, 263, rfl⟩
abbrev main_v141 : Ref sig .tc := ⟨.hbm, 264, rfl⟩

abbrev nD : Nat := 1
abbrev τ : Topo := Topo.v7x

variable {F : FTy → Type} [FloatOps F]
-- ==== Proof.Frames.lean ====
/- The frame claims of the three programs and the facts of the precondition: each program ends, leaves its argument
   arrays unchanged and every semaphore counter at zero. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Claim
public import Idealize.ShloMosaic.Lib.Quiescent

@[expose] public section

noncomputable section

namespace Cert.Frames

open Idealize.ShloMosaic Idealize.SL.Sem

/-- The shape relations that the precondition's operations take hold. -/
theorem preFacts : Cert.Pre_one_finite_and_labels_in_range.Facts :=
  ⟨by decide, by decide, by decide, by decide, by decide, by decide⟩

/-- The kernel, read at bit patterns, runs and leaves its arguments unchanged. -/
theorem kernel (hK : Cert.Kernel.Facts := Cert.Kernel.Gen.facts) : Cert.quiescent_Kernel (hKernel := hK) :=
  fun m ρ _ => Cert.Kernel.Gen.frame m ρ

/-- The kernel, read at the extended reals, runs and leaves its arguments unchanged. -/
theorem kernelIdeal : Cert.quiescent_KernelIdeal (hKernelIdeal := Cert.KernelIdeal.Gen.facts) :=
  fun m ρ _ => Cert.KernelIdeal.Gen.frame m ρ

/-- The same from the memories that meet the precondition. -/
theorem kernelIdealPre : Cert.quiescent_KernelIdeal_pre_one_finite_and_labels_in_range
    (hKernelIdeal := Cert.KernelIdeal.Gen.facts) (hPre_one_finite_and_labels_in_range := preFacts) :=
  fun m ρ _ => Cert.KernelIdeal.Gen.frame m ρ

/-- The reference has no semaphore, so its run leaves every counter at zero. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => r.2.sem = fun _ => 0) :=
  (θ_run _ _ _).mono (fun r _ => sem_eq_zero_of_no_sems rfl r.2) (Cert.ReferenceIdeal.Value.run m ρ)

/-- The reference runs and leaves its arguments unchanged. -/
theorem referenceIdeal : Cert.quiescent_ReferenceIdeal (hReferenceIdeal := Cert.ReferenceIdeal.Gen.facts) :=
  fun m ρ _ => θ_run_and ((θ_run _ _ _).mono (fun _ h c => (h c).2) (Cert.ReferenceIdeal.Value.run m ρ)) (reference_run m ρ)

/-- The same from the memories that meet the precondition. -/
theorem referenceIdealPre : Cert.quiescent_ReferenceIdeal_pre_one_finite_and_labels_in_range
    (hReferenceIdeal := Cert.ReferenceIdeal.Gen.facts) (hPre_one_finite_and_labels_in_range := preFacts) :=
  fun m ρ _ => referenceIdeal m ρ trivial

end Cert.Frames

end
-- ==== Proof.Leaves.lean ====
/- What one grid point leaves in the output block and in the three carried scratch arrays, as the payloads of the
   kernel's stores: the sum of exponentials, the picked logit, the sum of the small losses, and, at the last point, the
   total. Then the three folds that those values make over the 24 points. -/
module

public import proofs.«01_k».proof.Proof.Gen.KernelIdeal.Frame
public import Idealize.ShloMosaic.Lib.Pipeline.Value
public import Idealize.ShloMosaic.Lib.Tactic

@[expose] public section

noncomputable section

namespace Cert.Leaves

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ)

theorem origin : (![0, 0] : Fin 2 → Nat) = fun _ => 0 := funext fun a => by fin_cases a <;> rfl

/-- The first point leaves the block's sums of exponentials, added to zeros. -/
theorem sum_A (c : Dev nD) (i : grid0.Coords) (a1 : Memref sig .tc .vmem S32x1 .i32) (h1 : a1.IsWhole)
    (a2 : Memref sig .tc .vmem S32x4096 .f32) (h2 : a2.IsWhole) (a3 : Memref sig .tc .vmem S32x4096 .f32) (h3 : a3.IsWhole)
    (a4 : Memref sig .tc .vmem S32x4096 .f32) (h4 : a4.IsWhole) (a5 : Memref sig .tc .vmem S752x4096 .f32) (h5 : a5.IsWhole)
    (a6 : Memref sig .tc .vmem S1x1 .f32) (h6 : a6.IsWhole) (a7 : Memref sig .tc .vmem S32x1 .f32) (h7 : a7.IsWhole)
    (a8 : Memref sig .tc .vmem S32x1 .f32) (h8 : a8.IsWhole) (a9 : Memref sig .tc .vmem S1x1 .f32) (h9 : a9.IsWhole)
    (hc0 : cond0_0 i) (hc1 : ¬cond0_1 i) (x0 : Vec F S32x1 .i32) (x1 x2 x3 : Vec F S32x4096 .f32) (x4 : Vec F S752x4096 .f32) :
    sout0_A_0 c i a1 h1 a2 h2 a3 h3 a4 h4 a5 h5 a6 h6 a7 h7 a8 h8 a9 h9 hc0 hc1 x0 x1 x2 x3 x4 = k0_pay11 x1 x4 k0_pay2 := by
  unfold sout0_A_0
  rw [View.read_writes_eq_canon _ _ _ (scover0_A_0 c i a1 h1 a2 h2 a3 h3 a4 h4 a5 h5 a6 h6 a7 h7 a8 h8 a9 h9 hc0 hc1 x0 x1 x2 x3 x4)]
  unfold kernelRun0_A
  dsimp only
  sl_unfold_words
  rw [View.canon_cons_unit_zero (S := S32x1) origin, View.readCov_unit_zero (S := S32x1) _ origin]
  simp only [View.readAt_eq_ld, h1.read_unread, h2.read_unread, h3.read_unread, h4.read_unread, h5.read_unread, h6.read_unread, h7.read_unread, h8.read_unread, h9.read_unread, View.ld_unit_zero (S := S32x4096) origin, View.ld_unit_zero (S := S752x4096) origin, View.ld_unit_zero (S := S32x1) origin, View.ld_unit_zero (S := S1x1) origin]
  rfl

/-- The first point leaves the block's picked logits, added to zeros. -/
theorem pick_A (c : Dev nD) (i : grid0.Coords) (a1 : Memref sig .tc .vmem S32x1 .i32) (h1 : a1.IsWhole)
    (a2 : Memref sig .tc .vmem S32x4096 .f32) (h2 : a2.IsWhole) (a3 : Memref sig .tc .vmem S32x4096 .f32) (h3 : a3.IsWhole)
    (a4 : Memref sig .tc .vmem S32x4096 .f32) (h4 : a4.IsWhole) (a5 : Memref sig .tc .vmem S752x4096 .f32) (h5 : a5.IsWhole)
    (a6 : Memref sig .tc .vmem S1x1 .f32) (h6 : a6.IsWhole) (a7 : Memref sig .tc .vmem S32x1 .f32) (h7 : a7.IsWhole)
    (a8 : Memref sig .tc .vmem S32x1 .f32) (h8 : a8.IsWhole) (a9 : Memref sig .tc .vmem S1x1 .f32) (h9 : a9.IsWhole)
    (hc0 : cond0_0 i) (hc1 : ¬cond0_1 i) (x0 : Vec F S32x1 .i32) (x1 x2 x3 : Vec F S32x4096 .f32) (x4 : Vec F S752x4096 .f32) :
    sout0_A_1 c i a1 h1 a2 h2 a3 h3 a4 h4 a5 h5 a6 h6 a7 h7 a8 h8 a9 h9 hc0 hc1 x0 x1 x2 x3 x4 = k0_pay12 i x1 x4 x0 k0_pay3 := by
  unfold sout0_A_1
  rw [View.read_writes_eq_canon _ _ _ (scover0_A_1 c i a1 h1 a2 h2 a3 h3 a4 h4 a5 h5 a6 h6 a7 h7 a8 h8 a9 h9 hc0 hc1 x0 x1 x2 x3 x4)]
  unfold kernelRun0_A
  dsimp only
  sl_unfold_words
  rw [View.canon_cons_unit_zero (S := S32x1) origin, View.readCov_unit_zero (S := S32x1) _ origin]
  simp only [View.readAt_eq_ld, h1.read_unread, h2.read_unread, h3.read_unread, h4.read_unread, h5.read_unread, h6.read_unread, h7.read_unread, h8.read_unread, h9.read_unread, View.ld_unit_zero (S := S32x4096) origin, View.ld_unit_zero (S := S752x4096) origin, View.ld_unit_zero (S := S32x1) origin, View.ld_unit_zero (S := S1x1) origin]
  rfl

/-- The first point leaves the sum of the three small losses. -/
theorem small_A (c : Dev nD) (i : grid0.Coords) (a1 : Memref sig .tc .vmem S32x1 .i32) (h1 : a1.IsWhole)
    (a2 : Memref sig .tc .vmem S32x4096 .f32) (h2 : a2.IsWhole) (a3 : Memref sig .tc .vmem S32x4096 .f32) (h3 : a3.IsWhole)
    (a4 : Memref sig .tc .vmem S32x4096 .f32) (h4 : a4.IsWhole) (a5 : Memref sig .tc .vmem S752x4096 .f32) (h5 : a5.IsWhole)
    (a6 : Memref sig .tc .vmem S1x1 .f32) (h6 : a6.IsWhole) (a7 : Memref sig .tc .vmem S32x1 .f32) (h7 : a7.IsWhole)
    (a8 : Memref sig .tc .vmem S32x1 .f32) (h8 : a8.IsWhole) (a9 : Memref sig .tc .vmem S1x1 .f32) (h9 : a9.IsWhole)
    (hc0 : cond0_0 i) (hc1 : ¬cond0_1 i) (x0 : Vec F S32x1 .i32) (x1 x2 x3 : Vec F S32x4096 .f32) (x4 : Vec F S752x4096 .f32) :
    sout0_A_2 c i a1 h1 a2 h2 a3 h3 a4 h4 a5 h5 a6 h6 a7 h7 a8 h8 a9 h9 hc0 hc1 x0 x1 x2 x3 x4 = k0_pay9 (k0_pay4 x3 x2) (k0_pay5 x3) (k0_pay6 x2) (k0_pay7 x3) (k0_pay8 x3 x2) := by
  unfold sout0_A_2
  rw [View.read_writes_eq_canon _ _ _ (scover0_A_2 c i a1 h1 a2 h2 a3 h3 a4 h4 a5 h5 a6 h6 a7 h7 a8 h8 a9 h9 hc0 hc1 x0 x1 x2 x3 x4)]
  unfold kernelRun0_A
  dsimp only
  sl_unfold_words
  rw [View.canon_unit_zero (S := S1x1) origin]
  simp only [View.readAt_eq_ld, h1.read_unread, h2.read_unread, h3.read_unread, h4.read_unread, h5.read_unread, h6.read_unread, h7.read_unread, h8.read_unread, h9.read_unread, View.ld_unit_zero (S := S32x4096) origin, View.ld_unit_zero (S := S752x4096) origin, View.ld_unit_zero (S := S32x1) origin, View.ld_unit_zero (S := S1x1) origin]
  rfl

/-- A later point adds the block's sums of exponentials. -/
theorem sum_B (c : Dev nD) (i : grid0.Coords) (a1 : Memref sig .tc .vmem S32x1 .i32) (h1 : a1.IsWhole)
    (a2 : Memref sig .tc .vmem S32x4096 .f32) (h2 : a2.IsWhole) (a3 : Memref sig .tc .vmem S32x4096 .f32) (h3 : a3.IsWhole)
    (a4 : Memref sig .tc .vmem S32x4096 .f32) (h4 : a4.IsWhole) (a5 : Memref sig .tc .vmem S752x4096 .f32) (h5 : a5.IsWhole)
    (a6 : Memref sig .tc .vmem S1x1 .f32) (h6 : a6.IsWhole) (a7 : Memref sig .tc .vmem S32x1 .f32) (h7 : a7.IsWhole)
    (a8 : Memref sig .tc .vmem S32x1 .f32) (h8 : a8.IsWhole) (a9 : Memref sig .tc .vmem S1x1 .f32) (h9 : a9.IsWhole)
    (hc0 : ¬cond0_0 i) (hc1 : ¬cond0_1 i) (x0 : Vec F S32x1 .i32) (x1 x2 x3 : Vec F S32x4096 .f32) (x4 : Vec F S752x4096 .f32)
    (s0 s1 : Vec F S32x1 .f32) (s2 : Vec F S1x1 .f32) :
    sout0_B_0 c i a1 h1 a2 h2 a3 h3 a4 h4 a5 h5 a6 h6 a7 h7 a8 h8 a9 h9 hc0 hc1 x0 x1 x2 x3 x4 s0 s1 s2 = k0_pay11 x1 x4 s0 := by
  unfold sout0_B_0
  rw [View.read_writes_eq_canon _ _ _ (scover0_B_0 c i a1 h1 a2 h2 a3 h3 a4 h4 a5 h5 a6 h6 a7 h7 a8 h8 a9 h9 hc0 hc1 x0 x1 x2 x3 x4 s0 s1 s2)]
  unfold kernelRun0_B
  dsimp only
  sl_unfold_words
  rw [View.canon_unit_zero (S := S32x1) origin]
  simp only [View.readAt_eq_ld, h1.read_unread, h2.read_unread, h3.read_unread, h4.read_unread, h5.read_unread, h6.read_unread, h7.read_unread, h8.read_unread, h9.read_unread, View.ld_unit_zero (S := S32x4096) origin, View.ld_unit_zero (S := S752x4096) origin, View.ld_unit_zero (S := S32x1) origin, View.ld_unit_zero (S := S1x1) origin]

/-- A later point adds the block's picked logits. -/
theorem pick_B (c : Dev nD) (i : grid0.Coords) (a1 : Memref sig .tc .vmem S32x1 .i32) (h1 : a1.IsWhole)
    (a2 : Memref sig .tc .vmem S32x4096 .f32) (h2 : a2.IsWhole) (a3 : Memref sig .tc .vmem S32x4096 .f32) (h3 : a3.IsWhole)
    (a4 : Memref sig .tc .vmem S32x4096 .f32) (h4 : a4.IsWhole) (a5 : Memref sig .tc .vmem S752x4096 .f32) (h5 : a5.IsWhole)
    (a6 : Memref sig .tc .vmem S1x1 .f32) (h6 : a6.IsWhole) (a7 : Memref sig .tc .vmem S32x1 .f32) (h7 : a7.IsWhole)
    (a8 : Memref sig .tc .vmem S32x1 .f32) (h8 : a8.IsWhole) (a9 : Memref sig .tc .vmem S1x1 .f32) (h9 : a9.IsWhole)
    (hc0 : ¬cond0_0 i) (hc1 : ¬cond0_1 i) (x0 : Vec F S32x1 .i32) (x1 x2 x3 : Vec F S32x4096 .f32) (x4 : Vec F S752x4096 .f32)
    (s0 s1 : Vec F S32x1 .f32) (s2 : Vec F S1x1 .f32) :
    sout0_B_1 c i a1 h1 a2 h2 a3 h3 a4 h4 a5 h5 a6 h6 a7 h7 a8 h8 a9 h9 hc0 hc1 x0 x1 x2 x3 x4 s0 s1 s2 = k0_pay12 i x1 x4 x0 s1 := by
  unfold sout0_B_1
  rw [View.read_writes_eq_canon _ _ _ (scover0_B_1 c i a1 h1 a2 h2 a3 h3 a4 h4 a5 h5 a6 h6 a7 h7 a8 h8 a9 h9 hc0 hc1 x0 x1 x2 x3 x4 s0 s1 s2)]
  unfold kernelRun0_B
  dsimp only
  sl_unfold_words
  rw [View.canon_unit_zero (S := S32x1) origin]
  simp only [View.readAt_eq_ld, h1.read_unread, h2.read_unread, h3.read_unread, h4.read_unread, h5.read_unread, h6.read_unread, h7.read_unread, h8.read_unread, h9.read_unread, View.ld_unit_zero (S := S32x4096) origin, View.ld_unit_zero (S := S752x4096) origin, View.ld_unit_zero (S := S32x1) origin, View.ld_unit_zero (S := S1x1) origin]

/-- A later point adds the block's sums of exponentials. -/
theorem sum_C (c : Dev nD) (i : grid0.Coords) (a1 : Memref sig .tc .vmem S32x1 .i32) (h1 : a1.IsWhole)
    (a2 : Memref sig .tc .vmem S32x4096 .f32) (h2 : a2.IsWhole) (a3 : Memref sig .tc .vmem S32x4096 .f32) (h3 : a3.IsWhole)
    (a4 : Memref sig .tc .vmem S32x4096 .f32) (h4 : a4.IsWhole) (a5 : Memref sig .tc .vmem S752x4096 .f32) (h5 : a5.IsWhole)
    (a6 : Memref sig .tc .vmem S1x1 .f32) (h6 : a6.IsWhole) (a7 : Memref sig .tc .vmem S32x1 .f32) (h7 : a7.IsWhole)
    (a8 : Memref sig .tc .vmem S32x1 .f32) (h8 : a8.IsWhole) (a9 : Memref sig .tc .vmem S1x1 .f32) (h9 : a9.IsWhole)
    (hc0 : ¬cond0_0 i) (hc1 : cond0_1 i) (x0 : Vec F S32x1 .i32) (x1 x2 x3 : Vec F S32x4096 .f32) (x4 : Vec F S752x4096 .f32)
    (s0 s1 : Vec F S32x1 .f32) (s2 : Vec F S1x1 .f32) :
    sout0_C_0 c i a1 h1 a2 h2 a3 h3 a4 h4 a5 h5 a6 h6 a7 h7 a8 h8 a9 h9 hc0 hc1 x0 x1 x2 x3 x4 s0 s1 s2 = k0_pay11 x1 x4 s0 := by
  unfold sout0_C_0
  rw [View.read_writes_eq_canon _ _ _ (scover0_C_0 c i a1 h1 a2 h2 a3 h3 a4 h4 a5 h5 a6 h6 a7 h7 a8 h8 a9 h9 hc0 hc1 x0 x1 x2 x3 x4 s0 s1 s2)]
  unfold kernelRun0_C
  dsimp only
  sl_unfold_words
  rw [View.canon_unit_zero (S := S32x1) origin]
  simp only [View.readAt_eq_ld, h1.read_unread, h2.read_unread, h3.read_unread, h4.read_unread, h5.read_unread, h6.read_unread, h7.read_unread, h8.read_unread, h9.read_unread, View.ld_unit_zero (S := S32x4096) origin, View.ld_unit_zero (S := S752x4096) origin, View.ld_unit_zero (S := S32x1) origin, View.ld_unit_zero (S := S1x1) origin]

/-- A later point adds the block's picked logits. -/
theorem pick_C (c : Dev nD) (i : grid0.Coords) (a1 : Memref sig .tc .vmem S32x1 .i32) (h1 : a1.IsWhole)
    (a2 : Memref sig .tc .vmem S32x4096 .f32) (h2 : a2.IsWhole) (a3 : Memref sig .tc .vmem S32x4096 .f32) (h3 : a3.IsWhole)
    (a4 : Memref sig .tc .vmem S32x4096 .f32) (h4 : a4.IsWhole) (a5 : Memref sig .tc .vmem S752x4096 .f32) (h5 : a5.IsWhole)
    (a6 : Memref sig .tc .vmem S1x1 .f32) (h6 : a6.IsWhole) (a7 : Memref sig .tc .vmem S32x1 .f32) (h7 : a7.IsWhole)
    (a8 : Memref sig .tc .vmem S32x1 .f32) (h8 : a8.IsWhole) (a9 : Memref sig .tc .vmem S1x1 .f32) (h9 : a9.IsWhole)
    (hc0 : ¬cond0_0 i) (hc1 : cond0_1 i) (x0 : Vec F S32x1 .i32) (x1 x2 x3 : Vec F S32x4096 .f32) (x4 : Vec F S752x4096 .f32)
    (s0 s1 : Vec F S32x1 .f32) (s2 : Vec F S1x1 .f32) :
    sout0_C_1 c i a1 h1 a2 h2 a3 h3 a4 h4 a5 h5 a6 h6 a7 h7 a8 h8 a9 h9 hc0 hc1 x0 x1 x2 x3 x4 s0 s1 s2 = k0_pay12 i x1 x4 x0 s1 := by
  unfold sout0_C_1
  rw [View.read_writes_eq_canon _ _ _ (scover0_C_1 c i a1 h1 a2 h2 a3 h3 a4 h4 a5 h5 a6 h6 a7 h7 a8 h8 a9 h9 hc0 hc1 x0 x1 x2 x3 x4 s0 s1 s2)]
  unfold kernelRun0_C
  dsimp only
  sl_unfold_words
  rw [View.canon_unit_zero (S := S32x1) origin]
  simp only [View.readAt_eq_ld, h1.read_unread, h2.read_unread, h3.read_unread, h4.read_unread, h5.read_unread, h6.read_unread, h7.read_unread, h8.read_unread, h9.read_unread, View.ld_unit_zero (S := S32x4096) origin, View.ld_unit_zero (S := S752x4096) origin, View.ld_unit_zero (S := S32x1) origin, View.ld_unit_zero (S := S1x1) origin]

/-- The last point writes the total of the carried sums, its own block included. -/
theorem out_C (c : Dev nD) (i : grid0.Coords) (a1 : Memref sig .tc .vmem S32x1 .i32) (h1 : a1.IsWhole)
    (a2 : Memref sig .tc .vmem S32x4096 .f32) (h2 : a2.IsWhole) (a3 : Memref sig .tc .vmem S32x4096 .f32) (h3 : a3.IsWhole)
    (a4 : Memref sig .tc .vmem S32x4096 .f32) (h4 : a4.IsWhole) (a5 : Memref sig .tc .vmem S752x4096 .f32) (h5 : a5.IsWhole)
    (a6 : Memref sig .tc .vmem S1x1 .f32) (h6 : a6.IsWhole) (a7 : Memref sig .tc .vmem S32x1 .f32) (h7 : a7.IsWhole)
    (a8 : Memref sig .tc .vmem S32x1 .f32) (h8 : a8.IsWhole) (a9 : Memref sig .tc .vmem S1x1 .f32) (h9 : a9.IsWhole)
    (hc0 : ¬cond0_0 i) (hc1 : cond0_1 i) (x0 : Vec F S32x1 .i32) (x1 x2 x3 : Vec F S32x4096 .f32) (x4 : Vec F S752x4096 .f32)
    (s0 s1 : Vec F S32x1 .f32) (s2 : Vec F S1x1 .f32) :
    out0_C_5 c i a1 h1 a2 h2 a3 h3 a4 h4 a5 h5 a6 h6 a7 h7 a8 h8 a9 h9 hc0 hc1 x0 x1 x2 x3 x4 s0 s1 s2 = k0_pay1 (k0_pay11 x1 x4 s0) (k0_pay12 i x1 x4 x0 s1) s2 := by
  unfold out0_C_5
  rw [View.read_writes_eq_canon _ _ _ (cover0_C_5 c i a1 h1 a2 h2 a3 h3 a4 h4 a5 h5 a6 h6 a7 h7 a8 h8 a9 h9 hc0 hc1 x0 x1 x2 x3 x4 s0 s1 s2)]
  unfold kernelRun0_C
  dsimp only
  sl_unfold_words
  rw [View.canon_unit_zero (S := S1x1) origin, View.readCov_unit_zero (S := S32x1) _ origin, View.readCov_unit_zero (S := S32x1) _ origin]
  simp only [View.readAt_eq_ld, h1.read_unread, h2.read_unread, h3.read_unread, h4.read_unread, h5.read_unread, h6.read_unread, h7.read_unread, h8.read_unread, h9.read_unread, View.ld_unit_zero (S := S32x4096) origin, View.ld_unit_zero (S := S752x4096) origin, View.ld_unit_zero (S := S32x1) origin, View.ld_unit_zero (S := S1x1) origin]

/-- The sums of exponentials after point `n`. -/
def sumFold (c : Dev nD) : (n : ℕ) → n < cfg0.N → Vec F S32x1 .f32
  | 0, h => k0_pay11 (iblk m c 1 ⟨0, h⟩) (iblk m c 4 ⟨0, h⟩) k0_pay2
  | n + 1, h => k0_pay11 (iblk m c 1 ⟨n + 1, h⟩) (iblk m c 4 ⟨n + 1, h⟩) (sumFold c n (Nat.lt_of_succ_lt h))

/-- The picked logits after point `n`. -/
def pickFold (c : Dev nD) : (n : ℕ) → n < cfg0.N → Vec F S32x1 .f32
  | 0, h => k0_pay12 (grid0.coords ⟨0, h⟩) (iblk m c 1 ⟨0, h⟩) (iblk m c 4 ⟨0, h⟩) (iblk m c 0 ⟨0, h⟩) k0_pay3
  | n + 1, h => k0_pay12 (grid0.coords ⟨n + 1, h⟩) (iblk m c 1 ⟨n + 1, h⟩) (iblk m c 4 ⟨n + 1, h⟩) (iblk m c 0 ⟨n + 1, h⟩)
      (pickFold c n (Nat.lt_of_succ_lt h))

/-- The sum of the three small losses of two feature arrays. -/
def smallOf (f f1 : Vec F S32x4096 .f32) : Vec F S1x1 .f32 :=
  k0_pay9 (k0_pay4 f f1) (k0_pay5 f) (k0_pay6 f1) (k0_pay7 f) (k0_pay8 f f1)

theorem N_eq : cfg0.N = 24 := N_0

/-- The carried scratch after point `n` is the three folds, by induction on the point. -/
theorem carried_eq (c : Dev nD) : ∀ (n : ℕ) (h : n < cfg0.N), (outsAt0 m c n h).2 =
    (sumFold m c n h, pickFold m c n h, smallOf (iblk m c 3 ⟨0, by rw [N_eq]; decide⟩) (iblk m c 2 ⟨0, by rw [N_eq]; decide⟩))
  | 0, h => by
    have e := congrArg Prod.snd (outsAt0_A m c ⟨0, h⟩ rfl (by dsimp only; decide))
    rw [sum_A, pick_A, small_A] at e
    exact e
  | n + 1, h => by
    have hN := N_eq
    have h0 : ¬(⟨n + 1, h⟩ : Fin cfg0.N).val % 24 = 0 := by dsimp only; omega
    have ih := carried_eq c n (Nat.lt_of_succ_lt h)
    have e0 := congrArg Prod.fst ih
    have e1 := congrArg (fun p => p.2.1) ih
    have e2 := congrArg (fun p => p.2.2) ih
    dsimp only at e0 e1 e2
    by_cases h1 : (⟨n + 1, h⟩ : Fin cfg0.N).val % 24 = 23
    · have e := congrArg Prod.snd (outsAt0_C m c ⟨n + 1, h⟩ h0 h1)
      rw [sum_C, pick_C] at e
      refine e.trans ?_
      show (k0_pay11 _ _ (outsAt0 m c n _).2.1, k0_pay12 _ _ _ _ (outsAt0 m c n _).2.2.1, (outsAt0 m c n _).2.2.2) = _
      rw [e0, e1, e2]
      rfl
    · have e := congrArg Prod.snd (outsAt0_B m c ⟨n + 1, h⟩ h0 h1)
      rw [sum_B, pick_B] at e
      refine e.trans ?_
      show (k0_pay11 _ _ (outsAt0 m c n _).2.1, k0_pay12 _ _ _ _ (outsAt0 m c n _).2.2.1, (outsAt0 m c n _).2.2.2) = _
      rw [e0, e1, e2]
      rfl

/-- The output block after the last point is the total of the three folds. -/
theorem total_eq (c : Dev nD) (h : 23 < cfg0.N) : (outsAt0 m c 23 h).1 =
    k0_pay1 (sumFold m c 23 h) (pickFold m c 23 h)
      (smallOf (iblk m c 3 ⟨0, by rw [N_eq]; decide⟩) (iblk m c 2 ⟨0, by rw [N_eq]; decide⟩)) := by
  have ih := carried_eq m c 22 (Nat.lt_of_succ_lt h)
  have e0 := congrArg Prod.fst ih
  have e1 := congrArg (fun p => p.2.1) ih
  have e2 := congrArg (fun p => p.2.2) ih
  dsimp only at e0 e1 e2
  have e := congrArg Prod.fst (outsAt0_C m c ⟨23, h⟩ (by dsimp only; decide) rfl)
  rw [out_C] at e
  refine e.trans ?_
  show k0_pay1 (k0_pay11 _ _ (outsAt0 m c 22 _).2.1) (k0_pay12 _ _ _ _ (outsAt0 m c 22 _).2.2.1) (outsAt0 m c 22 _).2.2.2 = _
  rw [e0, e1, e2]
  rfl

end Cert.Leaves

end
-- ==== Proof.Outcome.lean ====
/- What the kernel's program ends with: the last grid point writes the whole 1×1 output array, and the host line after the
   launch reshapes it to the scalar result. Then the launch's input blocks, read off the program's arguments. -/
module

public import proofs.«01_k».proof.Proof.Leaves
public import Idealize.ShloMosaic.Lib.Pipeline.ValueKit

@[expose] public section

set_option maxRecDepth 16384

noncomputable section

namespace Cert.Outcome

open Cert.KernelIdeal Cert.KernelIdeal.Gen Cert.Leaves Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- The last grid point. -/
def lastPt : Fin cfg0.N := ⟨23, by rw [N_eq]; decide⟩

/-- The first grid point. -/
def firstPt : Fin cfg0.N := ⟨0, by rw [N_eq]; decide⟩

/-- The total: the kernel's output block after the last point. -/
def total (c : Dev nD) : Vec F S1x1 .f32 :=
  k0_pay1 (sumFold m c 23 lastPt.isLt) (pickFold m c 23 lastPt.isLt) (smallOf (iblk m c 3 firstPt) (iblk m c 2 firstPt))

/-- The output array after the run is the total. -/
theorem array_eq (c : Dev nD) : (dats m 0 c).arrAt 5 cfg0.N = total m c := by
  refine (dats m 0 c).arrAt_eq_of_after_last 5 lastPt (by decide +kernel) _ fun j => ?_
  blk_simp
  rw [after0_5]
  exact congrFun (total_eq m c lastPt.isLt) _

/-- The scalar result after the host line that follows the launch: the total, reshaped. -/
theorem tail_eq (c : Dev nD) : Pipeline.afterTail₀ cfgs (dats m) 0 (V0 m) [hostOps1] c main_v3
    = shapeCast S_ (total m c) shapeCasts_S1x1_S_ := by
  unfold Pipeline.afterTail₀
  simp only [List.flatten_cons, List.flatten_nil, List.append_nil]
  rw [← array_eq m c]
  after_results
  exact congrArg (fun a => shapeCast S_ a shapeCasts_S1x1_S_)
    (Pipeline.withArrays_arr (cfgs 0).spec (by decide) c (V0 m c) (fun w => (dats m 0 c).arrAt w (cfgs 0).N) 5)

/-- Every run ends with the result holding the total and the arguments as launched. -/
theorem run : θ_run defs (onTc (τ := τ) (main (F := F))) ⟨m, fun _ => 0, ρ⟩ (fun r => (∀ c : Dev nD,
      r.2.mem ((c.tc : Thread nD τ).loc main_v3) = shapeCast S_ (total m c) shapeCasts_S1x1_S_)
      ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_and ((θ_run defs _ _).mono (fun r h c =>
    ((h c).2 main_v3 (Pipeline.mem_restRefs_of main_v3 (by decide) (by decide))).trans (tail_eq m c)) (run_main m ρ))
    (unchanged m ρ)

/-- The index maps of the six windows: only the memory bank's block moves with the point. -/
theorem maps : ∀ t : Fin cfg0.N, win0_0.index t = ![0, 0] ∧ win0_1.index t = ![0, 0] ∧ win0_2.index t = ![0, 0] ∧
    win0_3.index t = ![0, 0] ∧ win0_4.index t = ![t.val, 0] := by decide +kernel

/-- The first operand's block is the whole of feat_cat. -/
theorem blk1 (c : Dev nD) (t : Fin cfg0.N) : iblk m c 1 t = m ((c.tc : Thread nD τ).loc main_arg0) := by
  funext j
  blk_point [iblk, V, maps t]

theorem blk2 (c : Dev nD) (t : Fin cfg0.N) : iblk m c 2 t = m ((c.tc : Thread nD τ).loc main_arg1) := by
  funext j
  blk_point [iblk, V, maps t]

theorem blk3 (c : Dev nD) (t : Fin cfg0.N) : iblk m c 3 t = m ((c.tc : Thread nD τ).loc main_arg2) := by
  funext j
  blk_point [iblk, V, maps t]

/-- Point `t`'s block of the memory bank is the 752 rows from row `752 t` on. -/
theorem blk4 (c : Dev nD) (t : Fin cfg0.N) (j : Fin 752) (k : Fin 4096) (h : t.val * 752 + j.val < 18048) :
    iblk m c 4 t (ix2 j k) = m ((c.tc : Thread nD τ).loc main_arg4) (ix2 ⟨t.val * 752 + j.val, h⟩ k) := by
  blk_point [iblk, V, maps t]

/-- The labels' block at row `r` is the first label of row `r`. -/
theorem blk0 (c : Dev nD) (t : Fin cfg0.N) (r : Fin 32) :
    iblk m c 0 t (ix2 r 0) = m ((c.tc : Thread nD τ).loc main_arg3) (ix3 0 r 0) := by
  have e : V m c main_v2 = shapeCast S32x1 (shapeCast S1x32 (extractStridedSlice S1x32x1 ![0, 0, 0]
      (m ((c.tc : Thread nD τ).loc main_arg3)) slices_S1x32x2_S1x32x1_0_0_0) shapeCasts_S1x32x1_S1x32) shapeCasts_S1x32_S32x1 := by
    dsimp only [V, V0, hostOps0, List.flatten_cons, List.flatten_nil, List.append_nil, List.cons_append, List.nil_append]
    after_results
    rfl
  have e2 : iblk m c 0 t (ix2 r 0) = V m c main_v2 (ix2 r 0) := by
    have hx : (win0_0.blk t).view.emb (ix2 r 0) = ix2 r 0 := by
      funext a
      apply Fin.ext
      fin_cases a <;> blk_simp [maps t] <;> simp
    exact congrArg (V m c main_v2) hx
  rw [e2, e]
  pointwise

end Cert.Outcome

end
-- ==== Proof.Losses.lean ====
/- The mathematics that the kernel and the reference share, over extended reals: the softmax identities that let a shift be
   taken out of a row, and the named parts of the total loss. No program is mentioned here. -/
module

public import Idealize.ShloMosaic.PureOps.Ideal
public import Idealize.ShloMosaic.PureOps.Ideal.Laws

@[expose] public section

noncomputable section

namespace Cert.Losses

open Idealize.ShloMosaic

/-! ## Literals -/

theorem lit_zero : Ideal.ofBits .f32 0x00000000#32 = 0 := Ideal.ofBits_zero_f32

theorem lit_two : Ideal.ofBits .f32 0x40000000#32 = ((2 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_batch : Ideal.ofBits .f32 0x42000000#32 = ((32 : ℝ) : EReal) := by
  simp [Ideal.ofBits, Ideal.ieee, -EReal.coe_mul]; norm_num

theorem lit_rows : Ideal.ofBits .f32 0x468D0000#32 = ((18048 : ℝ) : EReal) := by
  simp [Ideal.ofBits, Ideal.ieee, -EReal.coe_mul]; norm_num

theorem lit_temp : Ideal.ofBits .f32 0x3D4CCCCD#32 = ((13421773 / 268435456 : ℝ) : EReal) := by
  simp [Ideal.ofBits, Ideal.ieee, -EReal.coe_mul]; norm_num

theorem lit_top : Ideal.ofBits .f32 0x7F800000#32 = ⊤ := by
  simp [Ideal.ofBits, Ideal.ieee]

theorem lit_bot : Ideal.ofBits .f32 0xFF800000#32 = ⊥ := by
  simp [Ideal.ofBits, Ideal.ieee]

/-! ## Sums and shifts -/

/-- A finite sum of reals, read as an extended real, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem exp_nonneg (x : EReal) : 0 ≤ Ideal.exp x := by
  induction x with
  | bot => simp
  | top => simp
  | coe r => simp only [Ideal.exp_coe]; exact_mod_cast (Real.exp_pos r).le

/-- The exponential of a difference with a real subtrahend is a product. -/
theorem exp_sub_real (x : EReal) (c : ℝ) : Ideal.exp (x - (c : EReal)) = Ideal.exp x * ((Real.exp (-c) : ℝ) : EReal) := by
  induction x with
  | bot => simp
  | top =>
    have h : (⊤ : EReal) - (c : EReal) = ⊤ := EReal.top_sub_coe c
    rw [h, Ideal.exp_top, EReal.top_mul_coe_of_pos (Real.exp_pos _)]
  | coe r =>
    rw [← EReal.coe_sub, Ideal.exp_coe, Ideal.exp_coe, ← EReal.coe_mul, sub_eq_add_neg, Real.exp_add]

/-- A positive real factor moves out of a sum of nonnegative extended reals. -/
theorem sum_mul_real {ι : Type} (s : Finset ι) (f : ι → EReal) (hf : ∀ i, 0 ≤ f i) (t : EReal) :
    ∑ i ∈ s, f i * t = (∑ i ∈ s, f i) * t := by
  classical
  induction s using Finset.induction_on with
  | empty => simp
  | insert a s h ih =>
    rw [Finset.sum_insert h, Finset.sum_insert h, ih,
      EReal.right_distrib_of_nonneg (hf a) (Finset.sum_nonneg fun i _ => hf i)]

/-- The logarithm undoes a factor `e⁻ᶜ` by a subtraction of `c`. -/
theorem log_mul_exp_neg (S : EReal) (hS : 0 ≤ S) (c : ℝ) :
    Ideal.log (S * ((Real.exp (-c) : ℝ) : EReal)) + (c : EReal) = Ideal.log S := by
  induction S with
  | bot => simp at hS
  | top => rw [EReal.top_mul_coe_of_pos (Real.exp_pos _), Ideal.log_top, EReal.top_add_coe]
  | coe r =>
    have h0 : 0 ≤ r := by exact_mod_cast hS
    rw [← EReal.coe_mul, Ideal.log_coe, Ideal.log_coe]
    rcases h0.eq_or_lt with rfl | hr
    · simp
    · have hp : 0 < r * Real.exp (-c) := mul_pos hr (Real.exp_pos _)
      rw [if_neg (not_le.mpr hp), if_neg (not_le.mpr hr), ← EReal.coe_add,
        Real.log_mul hr.ne' (Real.exp_pos _).ne', Real.log_exp]
      congr 1; ring

/-- The log of a row's sum of exponentials does not depend on the real shift taken out of the row: for every row of
    extended reals, infinities included. -/
theorem lse_shift {ι : Type} [Fintype ι] (x : ι → EReal) (c : ℝ) :
    Ideal.log (∑ j, Ideal.exp (x j - (c : EReal))) + (c : EReal) = Ideal.log (∑ j, Ideal.exp (x j)) := by
  simp only [exp_sub_real]
  rw [sum_mul_real _ _ (fun j => exp_nonneg (x j))]
  exact log_mul_exp_neg _ (Finset.sum_nonneg fun j _ => exp_nonneg (x j)) c

/-- The shift that a guarded row maximum takes out is a real, whatever the maximum is. -/
theorem guarded_real (m : EReal) : ∃ c : ℝ, (if max m (-m) < ⊤ then m else 0) = (c : EReal) := by
  induction m with
  | bot => exact ⟨0, by simp⟩
  | top => exact ⟨0, by simp⟩
  | coe r => exact ⟨r, by rw [if_pos (max_lt (EReal.coe_lt_top r) (by rw [← EReal.coe_neg]; exact EReal.coe_lt_top _))]⟩

/-- The logarithm undoes the exponential, at the infinities too. -/
theorem log_exp (x : EReal) : Ideal.log (Ideal.exp x) = x := by
  induction x with
  | bot => rw [Ideal.exp_bot, ← EReal.coe_zero, Ideal.log_coe, if_pos le_rfl]
  | top => rfl
  | coe r => rw [Ideal.exp_coe, Ideal.log_coe, if_neg (not_le.mpr (Real.exp_pos _)), Real.log_exp]

/-! ## Rows

A row of extended reals is read in two cases: no entry is ∞ and some entry is not −∞, or some entry is ∞. -/

/-- The maximum of a row of the first kind is a real. -/
theorem fold_max_real {n : ℕ} (t : Fin n → EReal) (ht : ∀ j, t j < ⊤) (d : Fin n) (hd : ⊥ < t d) :
    ∃ c : ℝ, Finset.fold max (⊥ : EReal) t Finset.univ = (c : EReal) := by
  have h1 : Finset.fold max (⊥ : EReal) t Finset.univ < ⊤ := (Finset.fold_max_lt _).mpr ⟨bot_lt_top, fun j _ => ht j⟩
  have h2 : t d ≤ Finset.fold max (⊥ : EReal) t Finset.univ := (Finset.le_fold_max _).mpr (Or.inr ⟨d, Finset.mem_univ _, le_rfl⟩)
  exact ⟨_, (EReal.coe_toReal h1.ne (hd.trans_le h2).ne').symm⟩

/-- The maximum of a row of the second kind is ∞. -/
theorem fold_max_top {n : ℕ} (t : Fin n → EReal) (j : Fin n) (hj : t j = ⊤) :
    Finset.fold max (⊥ : EReal) t Finset.univ = ⊤ :=
  top_le_iff.mp ((Finset.le_fold_max _).mpr (Or.inr ⟨j, Finset.mem_univ _, hj.ge⟩))

/-- The exponentials of a row of the first kind have a positive real sum. -/
theorem sum_exp_real {n : ℕ} (t : Fin n → EReal) (ht : ∀ j, t j < ⊤) (d : Fin n) (hd : ⊥ < t d) :
    ∃ S : ℝ, 0 < S ∧ ∑ j, Ideal.exp (t j) = (S : EReal) := by
  have e : ∀ j, ∃ a : ℝ, Ideal.exp (t j) = (a : EReal) ∧ 0 ≤ a ∧ (⊥ < t j → 0 < a) := by
    intro j
    have hj := ht j
    generalize t j = x at hj
    induction x with
    | bot => exact ⟨0, by simp, le_rfl, fun h => absurd h (lt_irrefl _)⟩
    | top => exact absurd hj (lt_irrefl _)
    | coe r => exact ⟨Real.exp r, rfl, (Real.exp_pos r).le, fun _ => Real.exp_pos r⟩
  choose a ha using e
  refine ⟨∑ j, a j, Finset.sum_pos' (fun j _ => (ha j).2.1) ⟨d, Finset.mem_univ _, (ha d).2.2 hd⟩, ?_⟩
  rw [coe_sum]
  exact Finset.sum_congr rfl fun j _ => (ha j).1

/-- The exponentials of a row of the second kind sum to ∞. -/
theorem sum_exp_top {n : ℕ} (t : Fin n → EReal) (j : Fin n) (hj : t j = ⊤) : ∑ l, Ideal.exp (t l) = ⊤ := by
  refine top_le_iff.mp (le_trans ?_ (Finset.single_le_sum (f := fun l => Ideal.exp (t l)) (fun l _ => exp_nonneg (t l))
    (Finset.mem_univ j)))
  simp only [hj, Ideal.exp_top, le_refl]

/-- A row of the first kind: with a real taken out of it the log-softmax is the same. -/
theorem logSoft_shift {n : ℕ} (t : Fin n → EReal) (ht : ∀ j, t j < ⊤) (d : Fin n) (hd : ⊥ < t d) (c : ℝ) (j : Fin n) :
    (t j - (c : EReal)) - Ideal.log (∑ l, Ideal.exp (t l - (c : EReal))) = t j - Ideal.log (∑ l, Ideal.exp (t l)) := by
  obtain ⟨S, hS, e⟩ := sum_exp_real t ht d hd
  have e' : ∑ l, Ideal.exp (t l - (c : EReal)) = ((S * Real.exp (-c) : ℝ) : EReal) := by
    simp only [exp_sub_real]
    rw [sum_mul_real _ _ (fun l => exp_nonneg (t l)), e, EReal.coe_mul]
  rw [e, e', Ideal.log_coe, Ideal.log_coe, if_neg (not_le.mpr hS), if_neg (not_le.mpr (mul_pos hS (Real.exp_pos _))),
    Real.log_mul hS.ne' (Real.exp_pos _).ne', Real.log_exp]
  have hj := ht j
  generalize t j = x at hj
  induction x with
  | bot => simp only [EReal.bot_sub]
  | top => exact absurd hj (lt_irrefl _)
  | coe r =>
    simp only [← EReal.coe_sub]
    refine congrArg _ ?_
    ring

/-- A row of the first kind: the softmax with a real taken out is the exponential of the log-softmax. -/
theorem soft_shift {n : ℕ} (t : Fin n → EReal) (ht : ∀ j, t j < ⊤) (d : Fin n) (hd : ⊥ < t d) (c : ℝ) (j : Fin n) :
    Ideal.div (Ideal.exp (t j - (c : EReal))) (∑ l, Ideal.exp (t l - (c : EReal)))
      = Ideal.exp (t j - Ideal.log (∑ l, Ideal.exp (t l))) := by
  obtain ⟨S, hS, e⟩ := sum_exp_real t ht d hd
  have e' : ∑ l, Ideal.exp (t l - (c : EReal)) = ((S * Real.exp (-c) : ℝ) : EReal) := by
    simp only [exp_sub_real]
    rw [sum_mul_real _ _ (fun l => exp_nonneg (t l)), e, EReal.coe_mul]
  have hp : 0 < S * Real.exp (-c) := mul_pos hS (Real.exp_pos _)
  rw [e, e', Ideal.log_coe, if_neg (not_le.mpr hS), Ideal.div_coe hp.ne']
  have hj := ht j
  generalize t j = x at hj
  induction x with
  | bot => simp
  | top => exact absurd hj (lt_irrefl _)
  | coe r =>
    simp only [← EReal.coe_sub, Ideal.exp_coe, ← EReal.coe_mul]
    refine congrArg _ ?_
    rw [Real.exp_sub, Real.exp_sub, Real.exp_log hS, Real.exp_neg]
    have := (Real.exp_pos c).ne'
    field_simp

/-! ## The parts of the loss -/

/-- The inner products of the rows of one array with the rows of itself. -/
def gram (x : Fin 32 → Fin 4096 → EReal) (i j : Fin 32) : EReal := ∑ k, x i k * x j k

/-- A row's logarithm of softmax: the entry less the log of the row's sum of exponentials. -/
def logSoft (s : Fin 32 → Fin 32 → EReal) (i j : Fin 32) : EReal := s i j - Ideal.log (∑ l, Ideal.exp (s i l))

/-- The divergence of `exp b` from `exp a`, summed over all entries. -/
def kl (a b : Fin 32 → Fin 32 → EReal) : EReal := ∑ i, ∑ j, Ideal.exp (b i j) * (b i j - a i j)

/-- One minus the mean of the rows' inner products of two arrays. -/
def cosLoss (f f1 : Fin 32 → Fin 4096 → EReal) : EReal := 1 - Ideal.div (∑ i, ∑ k, f i k * f1 i k) ((32 : ℝ) : EReal)

/-- The three losses on the two feature arrays: the cosine loss and the two divergences. -/
def small (f f1 : Fin 32 → Fin 4096 → EReal) : EReal :=
  cosLoss f f1 + kl (logSoft (gram f)) (logSoft (gram f1)) + kl (logSoft (gram f1)) (logSoft (gram f))

/-- The logits: inner products with the memory bank's rows, over the temperature. -/
def logit (x : Fin 32 → Fin 4096 → EReal) (y : Fin 18048 → Fin 4096 → EReal) (r : Fin 32) (j : Fin 18048) : EReal :=
  (∑ k, x r k * y j k) * ((268435456 / 13421773 : ℝ) : EReal)

/-- The mean over the rows of the log-sum-exp less the labelled logit. -/
def crossEntropy (L : Fin 32 → Fin 18048 → EReal) (p : Fin 32 → Fin 18048) : EReal :=
  Ideal.div (∑ r, (Ideal.log (∑ j, Ideal.exp (L r j)) - L r (p r))) ((32 : ℝ) : EReal)

/-- The whole loss. -/
def total (x f1 f : Fin 32 → Fin 4096 → EReal) (p : Fin 32 → Fin 18048) (y : Fin 18048 → Fin 4096 → EReal) : EReal :=
  (crossEntropy (logit x y) p + ((Real.log 18048 : ℝ) : EReal)) * ((1 / 2 : ℝ) : EReal) + small f f1

/-- Division by the temperature is multiplication by its reciprocal. -/
theorem div_temp (a : EReal) : Ideal.div a ((13421773 / 268435456 : ℝ) : EReal) = a * ((268435456 / 13421773 : ℝ) : EReal) := by
  rw [Ideal.div_coe (by norm_num)]
  congr 2; norm_num

/-- Division by two is multiplication by a half. -/
theorem div_two (a : EReal) : Ideal.div a ((2 : ℝ) : EReal) = a * ((1 / 2 : ℝ) : EReal) :=
  Ideal.div_coe (by norm_num) a

/-- The inner products of real rows are real. -/
theorem gram_real (x : Fin 32 → Fin 4096 → EReal) (h : ∀ i k, ∃ c : ℝ, x i k = (c : EReal)) :
    ∃ s : Fin 32 → Fin 32 → ℝ, ∀ i j, gram x i j = (s i j : EReal) := by
  choose xr hx using h
  refine ⟨fun i j => ∑ k, xr i k * xr j k, fun i j => ?_⟩
  rw [coe_sum]
  exact Finset.sum_congr rfl fun k _ => by rw [hx, hx, EReal.coe_mul]

/-- A row's inner product with itself is not negative. -/
theorem gram_diag (x : Fin 32 → Fin 4096 → EReal) (i : Fin 32) : ⊥ < gram x i i := by
  refine lt_of_lt_of_le EReal.bot_lt_zero (Finset.sum_nonneg fun k _ => ?_)
  generalize x i k = a
  induction a with
  | bot => simp
  | top => simp
  | coe r => exact_mod_cast mul_self_nonneg r

/-- A log-softmax with an ∞ in the row is −∞. -/
theorem logSoft_bot (s : Fin 32 → Fin 32 → EReal) (i l : Fin 32) (h : s i l = ⊤) (j : Fin 32) : logSoft s i j = ⊥ := by
  unfold logSoft
  rw [sum_exp_top (s i) l h, Ideal.log_top, EReal.sub_top]

/-- The log-softmax of a row of inner products is never ∞. -/
theorem logSoft_lt_top (x : Fin 32 → Fin 4096 → EReal) (i j : Fin 32) : logSoft (gram x) i j < ⊤ := by
  by_cases h : ∀ l, gram x i l < ⊤
  · obtain ⟨S, hS, e⟩ := sum_exp_real (gram x i) h i (gram_diag x i)
    unfold logSoft
    rw [e, Ideal.log_coe, if_neg (not_le.mpr hS)]
    have hj := h j
    generalize gram x i j = a at hj
    induction a with
    | bot => simp
    | top => exact absurd hj (lt_irrefl _)
    | coe r => rw [← EReal.coe_sub]; exact EReal.coe_lt_top _
  · obtain ⟨l, hl⟩ := not_forall.mp h
    rw [logSoft_bot _ i l (not_lt_top_iff.mp hl)]
    exact bot_lt_top

/-- The log-softmax of inner products of real rows is real. -/
theorem logSoft_real (x : Fin 32 → Fin 4096 → EReal) (h : ∀ i k, ∃ c : ℝ, x i k = (c : EReal)) (i j : Fin 32) :
    ∃ c : ℝ, logSoft (gram x) i j = (c : EReal) := by
  obtain ⟨s, hs⟩ := gram_real x h
  obtain ⟨S, hS, e⟩ := sum_exp_real (gram x i) (fun l => by rw [hs]; exact EReal.coe_lt_top _) i (gram_diag x i)
  unfold logSoft
  rw [e, Ideal.log_coe, if_neg (not_le.mpr hS), hs, ← EReal.coe_sub]
  exact ⟨_, rfl⟩

/-! ## Sums that hold an infinity -/

theorem sum_ne_bot {ι : Type} (s : Finset ι) (f : ι → EReal) (h : ∀ i ∈ s, f i ≠ ⊥) : ∑ i ∈ s, f i ≠ ⊥ := by
  classical
  induction s using Finset.induction_on with
  | empty => simp
  | insert a s ha ih =>
    rw [Finset.sum_insert ha, Ne, EReal.add_eq_bot_iff, not_or]
    exact ⟨h a (Finset.mem_insert_self _ _), ih fun i hi => h i (Finset.mem_insert_of_mem hi)⟩

/-- A sum that holds ∞ and no −∞ is ∞. -/
theorem sum_eq_top {ι : Type} [Fintype ι] (f : ι → EReal) (h : ∀ i, f i ≠ ⊥) (a : ι) (ha : f a = ⊤) : ∑ i, f i = ⊤ := by
  classical
  rw [← Finset.add_sum_erase _ _ (Finset.mem_univ a), ha]
  exact EReal.top_add_of_ne_bot (sum_ne_bot _ _ fun i _ => h i)

/-- The terms of a divergence whose second argument is real: none is −∞. -/
theorem term_ne_bot (b : EReal) (hb : b < ⊤) (a : ℝ) : Ideal.exp b * (b - (a : EReal)) ≠ ⊥ := by
  induction b with
  | bot => simp
  | top => exact absurd hb (lt_irrefl _)
  | coe r => rw [← EReal.coe_sub, Ideal.exp_coe, ← EReal.coe_mul]; exact EReal.coe_ne_bot _

/-- The terms of a divergence whose first argument is real: none is −∞ … -/
theorem term_ne_bot' (b : ℝ) (a : EReal) (ha : a < ⊤) : Ideal.exp (b : EReal) * ((b : EReal) - a) ≠ ⊥ := by
  rw [Ideal.exp_coe]
  induction a with
  | bot => rw [EReal.coe_sub_bot, EReal.coe_mul_top_of_pos (Real.exp_pos b)]; exact top_ne_bot
  | top => exact absurd ha (lt_irrefl _)
  | coe r => rw [← EReal.coe_sub, ← EReal.coe_mul]; exact EReal.coe_ne_bot _

/-- … and it is ∞ where the second argument is −∞. -/
theorem term_top (b : ℝ) : Ideal.exp (b : EReal) * ((b : EReal) - ⊥) = ⊤ := by
  rw [Ideal.exp_coe, EReal.coe_sub_bot, EReal.coe_mul_top_of_pos (Real.exp_pos b)]

/-- The second cross entropy: the logits are all zero, so every row's term is the log of the row length. -/
theorem zeros_loss : Ideal.div (∑ _r : Fin 32, (Ideal.log (∑ _j : Fin 18048, Ideal.exp (0 : EReal)) - 0)) ((32 : ℝ) : EReal)
    = ((Real.log 18048 : ℝ) : EReal) := by
  have e : ∑ _j : Fin 18048, Ideal.exp (0 : EReal) = ((18048 : ℝ) : EReal) := by
    have h : Ideal.exp (0 : EReal) = ((1 : ℝ) : EReal) := by
      rw [← EReal.coe_zero, Ideal.exp_coe, Real.exp_zero]
    rw [h, ← coe_sum]; simp
  rw [e, Ideal.log_coe, if_neg (by norm_num), Ideal.div_coe (by norm_num), sub_zero, ← coe_sum, ← EReal.coe_mul]
  refine congrArg _ ?_
  rw [Finset.sum_const, Finset.card_univ, Fintype.card_fin, nsmul_eq_mul]
  push_cast
  ring

end Cert.Losses

end
-- ==== Proof.KernelValue.lean ====
/- The kernel's total over the extended reals: the payloads at a point, the two folds over the grid as sums over the whole
   memory bank, and the total as the named loss. -/
module

public import proofs.«01_k».proof.Proof.Outcome
public import proofs.«01_k».proof.Proof.Losses
public import Idealize.ShloMosaic.Lib.Pointwise

@[expose] public section

set_option maxRecDepth 16384

noncomputable section

namespace Cert.KernelValue

open Cert.KernelIdeal Cert.KernelIdeal.Gen Cert.Leaves Cert.Outcome Cert.Losses Idealize.ShloMosaic Idealize.ShloMosaic.TcCoe

/-! ## The payloads at a point -/

/-- The named constant is the reciprocal of the temperature's float word. -/
theorem inv_temp : Named.named (F := Ideal) (φ := .f32) κ "inv_temp" 0x41A00000#32 = ((268435456 / 13421773 : ℝ) : EReal) :=
  IdealRules.named_const.ideal_named_scalar κ "inv_temp" (φ := .f32) 0x41A00000#32 _ (by unfold κ; rfl)

theorem pay10_point (x : Vec Ideal S32x4096 .f32) (y : Vec Ideal S752x4096 .f32) (r : Fin 32) (j : Fin 752) :
    k0_pay10 x y (ix2 r j) = (∑ k, x (ix2 r k) * y (ix2 j k)) * ((268435456 / 13421773 : ℝ) : EReal) := by
  rw [← inv_temp]
  pointwise [k0_pay10]

theorem pay11_point (x : Vec Ideal S32x4096 .f32) (y : Vec Ideal S752x4096 .f32) (s : Vec Ideal S32x1 .f32) (r : Fin 32) :
    k0_pay11 x y s (ix2 r 0) = s (ix2 r 0) + ∑ j, Ideal.exp (k0_pay10 x y (ix2 r j)) := by
  pointwise [k0_pay11]

theorem pay12_point (i : grid0.Coords) (x : Vec Ideal S32x4096 .f32) (y : Vec Ideal S752x4096 .f32) (p : Vec Ideal S32x1 .i32)
    (s : Vec Ideal S32x1 .f32) (r : Fin 32) :
    k0_pay12 i x y p s (ix2 r 0) = s (ix2 r 0) + ∑ j : Fin 752, Scalar.select (IntOp.cmpi .eq
      (IntOp.addi (Scalar.muli (BitVec.ofNat 32 (i 0).val) 752#32) (BitVec.ofNat 32 j.val)) (p (ix2 r 0)))
      (k0_pay10 x y (ix2 r j)) 0 := by
  pointwise [k0_pay12]

theorem pay2_point (r : Fin 32) : (k0_pay2 (F := Ideal)) (ix2 r 0) = 0 := by
  pointwise [k0_pay2]

theorem pay3_point (r : Fin 32) : (k0_pay3 (F := Ideal)) (ix2 r 0) = 0 := by
  pointwise [k0_pay3]

theorem pay1_point (a b : Vec Ideal S32x1 .f32) (d : Vec Ideal S1x1 .f32) :
    k0_pay1 a b d (ix2 0 0) = (Ideal.div (∑ r : Fin 32, (Ideal.log (a (ix2 r 0)) - b (ix2 r 0))) ((32 : ℝ) : EReal)
      + ((Real.log 18048 : ℝ) : EReal)) * ((1 / 2 : ℝ) : EReal) + d (ix2 0 0) := by
  have h : ((Real.log 18048 : ℝ) : EReal) = Ideal.log ((18048 : ℝ) : EReal) := by
    rw [Ideal.log_coe, if_neg (by norm_num)]
  rw [h, ← lit_batch, ← lit_rows, ← lit_half]
  pointwise [k0_pay1]
  simp only [Fin.sum_univ_one, Fin.isValue, Finset.univ_unique, Finset.sum_singleton, Fin.default_eq_zero]
  rfl

theorem pay4_point (x y : Vec Ideal S32x4096 .f32) :
    k0_pay4 x y = cosLoss (fun i k => x (ix2 i k)) (fun i k => y (ix2 i k)) := by
  unfold cosLoss
  rw [← lit_batch]
  pointwise [k0_pay4]

theorem pay5_point (x : Vec Ideal S32x4096 .f32) (i j : Fin 32) :
    k0_pay5 x (ix2 i j) = logSoft (gram fun i k => x (ix2 i k)) i j := by
  unfold logSoft gram
  pointwise [k0_pay5]

theorem pay6_point (x : Vec Ideal S32x4096 .f32) (i j : Fin 32) :
    k0_pay6 x (ix2 i j) = logSoft (gram fun i k => x (ix2 i k)) i j := by
  unfold logSoft gram
  pointwise [k0_pay6]

theorem pay7_point (x : Vec Ideal S32x4096 .f32) (i j : Fin 32) :
    k0_pay7 x (ix2 i j) = Ideal.exp (logSoft (gram fun i k => x (ix2 i k)) i j) := by
  rw [← pay5_point]
  pointwise [k0_pay7]

theorem pay8_point (x y : Vec Ideal S32x4096 .f32) :
    k0_pay8 x y (ix3 0 0 0) = kl (logSoft (gram fun i k => x (ix2 i k))) (logSoft (gram fun i k => y (ix2 i k))) := by
  unfold kl
  simp only [← pay5_point, ← pay6_point]
  have e : ∀ z i j, k0_pay5 (F := Ideal) z (ix2 i j) = k0_pay6 z (ix2 i j) := fun z i j => by rw [pay5_point, pay6_point]
  pointwise [k0_pay8]
  simp only [e]

theorem pay9_point (v : Ideal .f32) (a b e : Vec Ideal S32x32 .f32) (d : Vec Ideal S1x1x1 .f32) :
    k0_pay9 v a b e d (ix2 0 0) = v + d (ix3 0 0 0) + ∑ i, ∑ j, e (ix2 i j) * (a (ix2 i j) - b (ix2 i j)) := by
  pointwise [k0_pay9]

/-- The small losses of two feature arrays are the named ones. -/
theorem small_eq (f f1 : Vec Ideal S32x4096 .f32) :
    smallOf f f1 (ix2 0 0) = small (fun i k => f (ix2 i k)) (fun i k => f1 (ix2 i k)) := by
  unfold smallOf small
  rw [pay9_point, pay8_point, pay4_point]
  unfold kl
  simp only [pay5_point, pay6_point, pay7_point]

/-! ## The folds -/

/-- A function on the memory bank's rows, continued by zero. -/
def ext (g : Fin 18048 → EReal) (a : ℕ) : EReal := if h : a < 18048 then g ⟨a, h⟩ else 0

/-- Twenty-four blocks of 752 rows are the whole bank. -/
theorem blocks_eq (g : Fin 18048 → EReal) :
    ∑ t ∈ Finset.range (23 + 1), ∑ j ∈ Finset.range 752, ext g (t * 752 + j) = ∑ a, g a := by
  rw [← Finset.sum_range_mul_split 24 752 (ext g), show 24 * 752 = 18048 from rfl, Finset.sum_range]
  exact Finset.sum_congr rfl fun a _ => dif_pos a.isLt

variable (m : (ℓ : Loc nD τ sig) → Buf (Elt Ideal) ℓ) (c : Dev nD)

/-- The logits' feature array. -/
def featCat (r : Fin 32) (k : Fin 4096) : EReal := m ((c.tc : Thread nD τ).loc main_arg0) (ix2 r k)
/-- The second feature array of the small losses. -/
def feat1 (r : Fin 32) (k : Fin 4096) : EReal := m ((c.tc : Thread nD τ).loc main_arg1) (ix2 r k)
/-- The first feature array of the small losses. -/
def feat (r : Fin 32) (k : Fin 4096) : EReal := m ((c.tc : Thread nD τ).loc main_arg2) (ix2 r k)
/-- The memory bank. -/
def bank (j : Fin 18048) (k : Fin 4096) : EReal := m ((c.tc : Thread nD τ).loc main_arg4) (ix2 j k)

theorem row_lt (t : ℕ) (h : t < cfg0.N) (j : Fin 752) : t * 752 + j.val < 18048 := by
  have := N_eq; have := j.isLt; omega

/-- A block's logits are the bank's logits at the block's rows. -/
theorem block_logit (t : ℕ) (h : t < cfg0.N) (r : Fin 32) (j : Fin 752) :
    k0_pay10 (iblk m c 1 ⟨t, h⟩) (iblk m c 4 ⟨t, h⟩) (ix2 r j)
      = logit (featCat m c) (bank m c) r ⟨t * 752 + j.val, row_lt t h j⟩ := by
  refine (pay10_point (iblk m c 1 ⟨t, h⟩) (iblk m c 4 ⟨t, h⟩) r j).trans ?_
  unfold logit
  congr 1
  refine Finset.sum_congr rfl fun k _ => ?_
  rw [blk1 m c ⟨t, h⟩, blk4 m c ⟨t, h⟩ j k (row_lt t h j)]
  rfl

/-- One block's sum of exponentials. -/
theorem block_sum (t : ℕ) (h : t < cfg0.N) (s : Vec Ideal S32x1 .f32) (r : Fin 32) :
    k0_pay11 (iblk m c 1 ⟨t, h⟩) (iblk m c 4 ⟨t, h⟩) s (ix2 r 0) = s (ix2 r 0)
      + ∑ j ∈ Finset.range 752, ext (fun a => Ideal.exp (logit (featCat m c) (bank m c) r a)) (t * 752 + j) := by
  refine (pay11_point (iblk m c 1 ⟨t, h⟩) (iblk m c 4 ⟨t, h⟩) s r).trans ?_
  rw [Finset.sum_range]
  congr 1
  refine Finset.sum_congr rfl fun j _ => ?_
  rw [block_logit m c t h r j, ext, dif_pos (row_lt t h j)]

/-- The carried sums of exponentials are the sums over the rows seen so far. -/
theorem sumFold_eq (r : Fin 32) : ∀ (n : ℕ) (h : n < cfg0.N), sumFold m c n h (ix2 r 0)
    = ∑ t ∈ Finset.range (n + 1), ∑ j ∈ Finset.range 752, ext (fun a => Ideal.exp (logit (featCat m c) (bank m c) r a)) (t * 752 + j)
  | 0, h => by
    rw [sumFold]
    refine (block_sum m c 0 h (k0_pay2 (F := Ideal)) r).trans ?_
    rw [pay2_point, zero_add, Finset.sum_range_one]
  | n + 1, h => by
    rw [sumFold]
    refine (block_sum m c (n + 1) h _ r).trans ?_
    rw [sumFold_eq r n, ← Finset.sum_range_succ]

/-- The labels are row numbers of the bank. -/
def Labels (p : Fin 32 → Fin 18048) : Prop :=
  ∀ r, m ((c.tc : Thread nD τ).loc main_arg3) (ix3 0 r 0) = BitVec.ofNat 32 (p r).val

/-- The kernel's comparison of a row number with the label is equality. -/
theorem cmp_row (t j p : ℕ) (ht : t < 24) (hj : j < 752) (hp : p < 18048) (x y : EReal) :
    Scalar.select (IntOp.cmpi .eq (IntOp.addi (Scalar.muli (BitVec.ofNat 32 t) 752#32) (BitVec.ofNat 32 j)) (BitVec.ofNat 32 p)) x y
      = if t * 752 + j = p then x else y := by
  have e : IntOp.addi (Scalar.muli (BitVec.ofNat 32 t) 752#32) (BitVec.ofNat 32 j) = BitVec.ofNat 32 (t * 752 + j) := by
    show BitVec.ofNat 32 t * BitVec.ofNat 32 752 + BitVec.ofNat 32 j = _
    rw [← BitVec.ofNat_mul, ← BitVec.ofNat_add]
  have e2 : (BitVec.ofNat 32 (t * 752 + j) = BitVec.ofNat 32 p) ↔ t * 752 + j = p := by
    constructor
    · intro h
      have := congrArg BitVec.toNat h
      rw [BitVec.toNat_ofNat, BitVec.toNat_ofNat, Nat.mod_eq_of_lt (by omega), Nat.mod_eq_of_lt (by omega)] at this
      exact this
    · intro h; rw [h]
  rw [e]
  by_cases h : t * 752 + j = p
  · rw [if_pos h, h]; simp [Scalar.select, IntOp.cmpi]
  · rw [if_neg h]
    have e3 : (BitVec.ofNat 32 (t * 752 + j) == BitVec.ofNat 32 p) = false := beq_eq_false_iff_ne.mpr (fun q => h (e2.mp q))
    simp [Scalar.select, IntOp.cmpi, e3]

/-- One block's picked logits. -/
theorem block_pick (p : Fin 32 → Fin 18048) (hp : Labels m c p) (t : ℕ) (h : t < cfg0.N) (s : Vec Ideal S32x1 .f32) (r : Fin 32) :
    k0_pay12 (grid0.coords ⟨t, h⟩) (iblk m c 1 ⟨t, h⟩) (iblk m c 4 ⟨t, h⟩) (iblk m c 0 ⟨t, h⟩) s (ix2 r 0) = s (ix2 r 0)
      + ∑ j ∈ Finset.range 752, ext (fun a => if a = p r then logit (featCat m c) (bank m c) r a else 0) (t * 752 + j) := by
  have hN := N_eq
  have hc : (grid0.coords ⟨t, h⟩ 0).val = t := by
    have e := Pipeline.Grid.coords_val (G := grid0) ⟨t, h⟩ 0 (S := 1) (B := 24) (by decide) rfl
    rw [e]; dsimp only; omega
  refine (pay12_point (grid0.coords ⟨t, h⟩) (iblk m c 1 ⟨t, h⟩) (iblk m c 4 ⟨t, h⟩) (iblk m c 0 ⟨t, h⟩) s r).trans ?_
  rw [Finset.sum_range, hc]
  congr 1
  refine Finset.sum_congr rfl fun j _ => ?_
  rw [block_logit m c t h r j, blk0 m c ⟨t, h⟩ r, hp r, cmp_row t j (p r) (by omega) j.isLt (p r).isLt, ext, dif_pos (row_lt t h j)]
  by_cases hq : t * 752 + j.val = (p r).val
  · rw [if_pos hq, if_pos (Fin.ext hq)]
  · rw [if_neg hq, if_neg (fun e => hq (congrArg Fin.val e))]

/-- The carried picked logits are the sums over the rows seen so far. -/
theorem pickFold_eq (p : Fin 32 → Fin 18048) (hp : Labels m c p) (r : Fin 32) : ∀ (n : ℕ) (h : n < cfg0.N),
    pickFold m c n h (ix2 r 0) = ∑ t ∈ Finset.range (n + 1), ∑ j ∈ Finset.range 752,
      ext (fun a => if a = p r then logit (featCat m c) (bank m c) r a else 0) (t * 752 + j)
  | 0, h => by
    rw [pickFold]
    refine (block_pick m c p hp 0 h (k0_pay3 (F := Ideal)) r).trans ?_
    rw [pay3_point, zero_add, Finset.sum_range_one]
  | n + 1, h => by
    rw [pickFold]
    refine (block_pick m c p hp (n + 1) h _ r).trans ?_
    rw [pickFold_eq p hp r n, ← Finset.sum_range_succ]

/-- The kernel's total is the named loss, whatever floats the arrays hold, if the labels are rows of the bank. -/
theorem total_eq (p : Fin 32 → Fin 18048) (hp : Labels m c p) :
    Outcome.total m c (ix2 0 0) = Losses.total (featCat m c) (feat1 m c) (feat m c) p (bank m c) := by
  unfold Outcome.total Losses.total crossEntropy
  refine (pay1_point _ _ _).trans ?_
  refine congrArg₂ (· + ·) ?_ ?_
  · refine congrArg (fun a => (Ideal.div a ((32 : ℝ) : EReal) + ((Real.log 18048 : ℝ) : EReal)) * ((1 / 2 : ℝ) : EReal)) ?_
    refine Finset.sum_congr rfl fun r _ => ?_
    refine congrArg₂ (fun a b => Ideal.log a - b) ((sumFold_eq m c r 23 lastPt.isLt).trans (blocks_eq _))
      ((pickFold_eq m c p hp r 23 lastPt.isLt).trans ((blocks_eq _).trans ?_))
    rw [Finset.sum_ite_eq' Finset.univ (p r), if_pos (Finset.mem_univ _)]
  · rw [blk2, blk3]
    exact small_eq _ _

end Cert.KernelValue

end
-- ==== Proof.RefSmall.lean ====
/- What the reference computes from the two feature arrays: the cosine loss, the logarithms of softmax and the divergences,
   as the named parts of the loss. The divergences' steps take a row maximum out; an infinite one makes the softmax 0 / 0, so
   the two divergences are read together, with one of the arrays real. -/
module

public import proofs.«01_k».proof.Proof.Gen.ReferenceIdeal.Read
public import proofs.«01_k».proof.Proof.Losses
public import Idealize.ShloMosaic.Lib.Pointwise

@[expose] public section

set_option maxRecDepth 16384

noncomputable section

namespace Cert.RefSmall

open Cert.ReferenceIdeal Cert.ReferenceIdeal.Read Cert.Losses Idealize.ShloMosaic Idealize.ShloMosaic.TcCoe

/-- A feature array, as the reference's argument. -/
abbrev Feat := (⟨S32x4096, .f32⟩ : BufTy).Contents (Elt Ideal)

/-- The rows of a feature array. -/
def rows (x : Feat) (i : Fin 32) (k : Fin 4096) : EReal := x (ix2 i k)

theorem sim_point (x : Feat) (i j : Fin 32) : val_main_v26 (F := Ideal) x (ix2 i j) = gram (rows x) i j := by
  unfold gram rows
  pointwise [val_main_v26, val_main_v25]

/-- The shift that the reference takes out of a row of similarities. -/
def rowMax (x : Feat) (i : Fin 32) : EReal :=
  max ⊥ (Finset.fold max ⊥ (fun j => gram (rows x) i j) Finset.univ)

theorem max1_point (x : Feat) (i j : Fin 32) : val_main_call1_v4 (F := Ideal) x (ix2 i j) = rowMax x i := by
  unfold rowMax
  simp only [← sim_point, ← lit_bot]
  pointwise [val_main_call1_v4, val_main_call1_v3, val_main_call1_v2, val_main_call1_v1, val_main_call1_v0, val_main_call1_cst,
    val_main_call1_cst_0]

theorem max2_point (x : Feat) (i j : Fin 32) : val_main_v35 (F := Ideal) x (ix2 i j) = rowMax x i := by
  unfold rowMax
  simp only [← sim_point, ← lit_bot]
  pointwise [val_main_v35, val_main_v34, val_main_v33, val_main_v32, val_main_v31, val_main_cst_6, val_main_cst_7]

theorem log1_point (x : Feat) (i j : Fin 32) : val_main_v29 (F := Ideal) x (ix2 i j) = (gram (rows x) i j - rowMax x i)
    - Ideal.log (∑ l, Ideal.exp (gram (rows x) i l - rowMax x i)) := by
  simp only [← sim_point]
  pointwise [val_main_v29, val_main_call1_v10, val_main_call1_v9, val_main_call1_v8, val_main_call1_v7, val_main_call1_cst_1,
    val_main_call1_v6, val_main_call1_v5]
  simp only [max1_point]

theorem soft_point (x : Feat) (i j : Fin 32) : val_main_v41 (F := Ideal) x (ix2 i j) = Ideal.div (Ideal.exp (gram (rows x) i j - rowMax x i))
    (∑ l, Ideal.exp (gram (rows x) i l - rowMax x i)) := by
  simp only [← sim_point]
  pointwise [val_main_v41, val_main_v40, val_main_v39, val_main_v38, val_main_v37, val_main_v36, val_main_cst_8]
  simp only [max2_point]

/-- A row of similarities without ∞ takes out a real. -/
theorem rowMax_real (x : Feat) (i : Fin 32) (h : ∀ l, gram (rows x) i l < ⊤) : ∃ c : ℝ, rowMax x i = (c : EReal) := by
  obtain ⟨c, hc⟩ := fold_max_real (gram (rows x) i) h i (gram_diag (rows x) i)
  exact ⟨c, (max_eq_right bot_le).trans hc⟩

/-- A row of similarities with an ∞ takes out ∞. -/
theorem rowMax_top (x : Feat) (i l : Fin 32) (h : gram (rows x) i l = ⊤) : rowMax x i = ⊤ :=
  (max_eq_right bot_le).trans (fold_max_top (gram (rows x) i) l h)

/-- The reference's log-softmax is the named one, for all features. -/
theorem log1_eq (x : Feat) (i j : Fin 32) : val_main_v29 (F := Ideal) x (ix2 i j) = logSoft (gram (rows x)) i j := by
  rw [log1_point]
  by_cases h : ∀ l, gram (rows x) i l < ⊤
  · obtain ⟨c, hc⟩ := rowMax_real x i h
    unfold logSoft
    rw [hc]
    exact logSoft_shift (gram (rows x) i) h i (gram_diag (rows x) i) c j
  · obtain ⟨l, hl⟩ := not_forall.mp h
    rw [logSoft_bot _ i l (not_lt_top_iff.mp hl), rowMax_top x i l (not_lt_top_iff.mp hl), EReal.sub_top, EReal.bot_sub]

/-- In a row without ∞ the reference's softmax is the exponential of the named log-softmax. -/
theorem soft_eq (x : Feat) (i : Fin 32) (h : ∀ l, gram (rows x) i l < ⊤) (j : Fin 32) :
    val_main_v41 (F := Ideal) x (ix2 i j) = Ideal.exp (logSoft (gram (rows x)) i j) := by
  obtain ⟨c, hc⟩ := rowMax_real x i h
  rw [soft_point, hc]
  exact soft_shift (gram (rows x) i) h i (gram_diag (rows x) i) c j

/-- In a row with an ∞ it is 0 / 0, that is −∞. -/
theorem soft_bot (x : Feat) (i l : Fin 32) (h : gram (rows x) i l = ⊤) (j : Fin 32) :
    val_main_v41 (F := Ideal) x (ix2 i j) = ⊥ := by
  rw [soft_point, rowMax_top x i l h]
  simp [EReal.sub_top, Ideal.div]

/-- The second array's log-softmax is the same function. -/
theorem log2_same (x : Feat) : val_main_v30 (F := Ideal) x = val_main_v29 (F := Ideal) x := rfl

/-- The second array's softmax is the same function. -/
theorem soft2_same (x : Feat) : val_main_v52 (F := Ideal) x = val_main_v41 (F := Ideal) x := rfl

/-- The second divergence is the first with the arrays exchanged. -/
theorem kl_same (x y : Feat) : val_main_v60 (F := Ideal) x y = val_main_v56 (F := Ideal) y x := rfl

theorem kl_point (x y : Feat) : val_main_v56 (F := Ideal) x y ix0 = ∑ i, ∑ j, val_main_v41 (F := Ideal) x (ix2 i j) *
    (Ideal.log (val_main_v41 (F := Ideal) x (ix2 i j)) - val_main_v29 (F := Ideal) y (ix2 i j)) := by
  rw [← soft2_same]
  pointwise [val_main_v56, val_main_v55, val_main_v54, val_main_v53, val_main_cst_12]

/-- Where no row of similarities of its first array holds an ∞, the reference's divergence is the named one. -/
theorem kl_eq (x y : Feat) (h : ∀ i l, gram (rows x) i l < ⊤) :
    val_main_v56 (F := Ideal) x y ix0 = kl (logSoft (gram (rows y))) (logSoft (gram (rows x))) := by
  rw [kl_point]
  unfold kl
  refine Finset.sum_congr rfl fun i _ => Finset.sum_congr rfl fun j _ => ?_
  rw [soft_eq x i (h i) j, log1_eq, log_exp]

/-- With one array real, the two divergences have the named ones' sum: either they are equal one by one, or a row of the other
    array has an ∞ among its similarities, and both sums are ∞. -/
theorem kl_sum (x y : Feat) (hx : ∀ i k, ∃ c : ℝ, rows x i k = (c : EReal)) :
    val_main_v56 (F := Ideal) x y ix0 + val_main_v56 (F := Ideal) y x ix0
      = kl (logSoft (gram (rows y))) (logSoft (gram (rows x))) + kl (logSoft (gram (rows x))) (logSoft (gram (rows y))) := by
  obtain ⟨s, hs⟩ := gram_real (rows x) hx
  rw [kl_eq x y (fun i l => by rw [hs]; exact EReal.coe_lt_top _)]
  by_cases h : ∀ i l, gram (rows y) i l < ⊤
  · rw [kl_eq y x h]
  · obtain ⟨i, hi⟩ := not_forall.mp h
    obtain ⟨l, hl⟩ := not_forall.mp hi
    have hil := not_lt_top_iff.mp hl
    choose a ha using logSoft_real (rows x) hx
    have k1 : kl (logSoft (gram (rows y))) (logSoft (gram (rows x))) = ⊤ := by
      have hn : ∀ i j, Ideal.exp (logSoft (gram (rows x)) i j) * (logSoft (gram (rows x)) i j - logSoft (gram (rows y)) i j) ≠ ⊥ := by
        intro i j
        rw [ha]
        exact term_ne_bot' _ _ (logSoft_lt_top (rows y) i j)
      refine sum_eq_top _ (fun i => sum_ne_bot _ _ fun j _ => hn i j) i (sum_eq_top _ (hn i) i ?_)
      rw [ha, logSoft_bot _ i l hil]
      exact term_top _
    have k2 : kl (logSoft (gram (rows x))) (logSoft (gram (rows y))) ≠ ⊥ := by
      refine sum_ne_bot _ _ fun i _ => sum_ne_bot _ _ fun j _ => ?_
      rw [ha]
      exact term_ne_bot _ (logSoft_lt_top (rows y) i j) _
    have k3 : val_main_v56 (F := Ideal) y x ix0 ≠ ⊥ := by
      rw [kl_point]
      refine sum_ne_bot _ _ fun i _ => sum_ne_bot _ _ fun j _ => ?_
      rw [log1_eq, ha]
      by_cases hg : ∀ l, gram (rows y) i l < ⊤
      · rw [soft_eq y i hg j, log_exp]
        exact term_ne_bot _ (logSoft_lt_top (rows y) i j) _
      · obtain ⟨l, hl⟩ := not_forall.mp hg
        rw [soft_bot y i l (not_lt_top_iff.mp hl), Ideal.log_bot, EReal.bot_sub, EReal.bot_mul_bot]
        exact top_ne_bot
    rw [k1, EReal.top_add_of_ne_bot k2, EReal.top_add_of_ne_bot k3]

/-- The masked row sums of the reference's products are the rows' inner products. -/
theorem cos_eq (x y : Feat) : val_main_v24 (F := Ideal) x y ix0 = cosLoss (rows y) (rows x) := by
  have e : val_main_v24 (F := Ideal) x y ix0 = 1 - Ideal.div (∑ i : Fin 32, ∑ j : Fin 32, Scalar.select (IntOp.cmpi .eq
      (IntOp.addi (BitVec.ofNat 32 i.val) 0#32) (BitVec.ofNat 32 j.val)) (∑ k, y (ix2 i k) * x (ix2 j k)) 0)
      (Ideal.ofBits .f32 0x42000000#32) := by
    pointwise [val_main_v24, val_main_v23, val_main_v22, val_main_v21, val_main_v20, val_main_v17, val_main_call0_v1,
      val_main_call0_v0, val_main_cst, val_main_cst_2, val_main_cst_3, val_main_cst_4, val_main_cst_5, val_main_v16,
      val_main_v15, val_main_v14, val_main_v13, val_main_c_1, val_main_v19, val_main_v18]
    simp [constant, Ideal.ofBits_zero_f32]
  rw [e, lit_batch]
  unfold cosLoss
  refine congrArg (fun a => 1 - Ideal.div a ((32 : ℝ) : EReal)) (Finset.sum_congr rfl fun i _ => ?_)
  have d : ∀ j : Fin 32, IntOp.cmpi .eq (IntOp.addi (BitVec.ofNat 32 i.val) 0#32) (BitVec.ofNat 32 j.val)
      = if j = i then 1#1 else 0#1 := by
    revert i; decide
  refine (Finset.sum_eq_single i (fun j _ hj => ?_) (fun h => absurd (Finset.mem_univ _) h)).trans ?_
  · rw [d j, if_neg hj]; rfl
  · rw [d i, if_pos rfl]; rfl

end Cert.RefSmall

end
-- ==== Proof.Index.lean ====
/- Where the reference's index operations read and write: words that are row numbers, a scatter whose indices count the rows,
   and the two gathers at a row number. -/
module

public import proofs.«01_k».proof.Proof.Gen.ReferenceIdeal.Read
public import Idealize.ShloMosaic.Lib.Pointwise
public import Idealize.ShloMosaic.Lib.Routing.OpsPair

@[expose] public section

set_option maxRecDepth 16384

noncomputable section

namespace Cert.Index

open Cert.ReferenceIdeal Cert.ReferenceIdeal.Read Idealize.ShloMosaic Idealize.ShloMosaic.TcCoe

/-! ## Words -/

theorem word_toNat (p : Fin 18048) : (BitVec.ofNat 32 p.val).toNat = p.val := by
  rw [BitVec.toNat_ofNat, Nat.mod_eq_of_lt]
  have := p.isLt; omega

theorem word_toInt (p : Fin 18048) : (BitVec.ofNat 32 p.val).toInt = (p.val : Int) :=
  WordCmp.toInt_ofNat_of_lt (by have := p.isLt; omega)

/-- A row number is not negative, so the wrap of negative indices leaves it alone. -/
theorem wrap_word (p : Fin 18048) (a : BitVec 32) :
    Scalar.select (IntOp.cmpi .slt (BitVec.ofNat 32 p.val) 0#32) a (BitVec.ofNat 32 p.val) = BitVec.ofNat 32 p.val := by
  rw [WordCmp.cmpi_slt_zero, word_toNat, decide_eq_false (by have := p.isLt; omega)]
  rfl

/-- A row number passes both bounds of the fill mode. -/
theorem bounds_word (p : Fin 18048) : IntOp.andi (IntOp.cmpi .sge (BitVec.ofNat 32 p.val) 0#32)
    (IntOp.cmpi .sle (BitVec.ofNat 32 p.val) 18047#32) = 1#1 := by
  have h := p.isLt
  rw [WordCmp.cmpi_sge_zero, WordCmp.cmpi_sle_eq, word_toNat, word_toInt, decide_eq_true (by omega),
    decide_eq_true (by show (p.val : Int) ≤ 18047; omega)]
  rfl

/-! ## The scatter -/

/-- An update of a scatter by one index word a row lands where its word and its column say. -/
theorem lands {N C : ℕ} (d : ScatterDims ⟨2, ![N, C]⟩ ⟨2, ![N, 1]⟩ ⟨2, ![N, C]⟩) (h1 : d.updateWindowDims = [1])
    (h2 : d.insertedWindowDims = [0]) (h3 : d.scatterDimsToOperandDims = [0]) (h4 : d.indexVectorDim = 1)
    (idx : IVec ⟨2, ![N, 1]⟩ 32) (a r : Fin N) (b c : Fin C) :
    d.resultIdx? (ix2 a b) idx = some (ix2 r c) ↔ (idx (ix2 a 0)).toInt = (r.val : Int) ∧ b = c := by
  obtain ⟨uw, iw, sd, iv, wf⟩ := d
  dsimp only at h1 h2 h3 h4
  subst h1 h2 h3 h4
  rw [Routing.resultIdx?_eq_some]
  generalize hd : (ScatterDims.mk (s := ⟨2, ![N, C]⟩) (si := ⟨2, ![N, 1]⟩) (u := ⟨2, ![N, C]⟩) [1] [0] [0] 1 wf) = d
  have s0 : d.start (ix2 a b) idx 0 = (idx (ix2 a 0)).toInt := by
    subst hd
    unfold ScatterDims.start
    rw [dif_pos (List.mem_singleton.mpr rfl)]
    refine congrArg (fun q => (idx q).toInt) (funext fun q => Fin.ext ?_)
    match q with
    | ⟨0, _⟩ => rfl
    | ⟨1, _⟩ => rfl
  have s1 : d.start (ix2 a b) idx 1 = 0 := by
    subst hd
    unfold ScatterDims.start
    rw [dif_neg (by simp)]
  have w0 : d.window (ix2 a b) 0 = 0 := by subst hd; rfl
  have w1 : d.window (ix2 a b) 1 = b.val := by subst hd; rfl
  constructor
  · intro h
    have e0 := h 0
    have e1 := h 1
    rw [s0, w0] at e0
    rw [s1, w1] at e1
    refine ⟨by simpa using e0, Fin.ext ?_⟩
    have e2 : (0 : Int) + (b.val : Int) = (c.val : Int) := e1
    omega
  · rintro ⟨h, rfl⟩ q
    match q with
    | ⟨0, _⟩ =>
      show d.start (ix2 a b) idx 0 + (d.window (ix2 a b) 0 : Int) = (r.val : Int)
      rw [s0, w0, h]; simp
    | ⟨1, _⟩ =>
      show d.start (ix2 a b) idx 1 + (d.window (ix2 a b) 1 : Int) = (b.val : Int)
      rw [s1, w1]; simp

/-- A scatter of sums whose indices count the rows adds the update of the same place. -/
theorem scatter_rows {C : ℕ} (d : ScatterDims ⟨2, ![18048, C]⟩ ⟨2, ![18048, 1]⟩ ⟨2, ![18048, C]⟩) (h1 : d.updateWindowDims = [1])
    (h2 : d.insertedWindowDims = [0]) (h3 : d.scatterDimsToOperandDims = [0]) (h4 : d.indexVectorDim = 1)
    (x : FVec Ideal ⟨2, ![18048, C]⟩ .f32) (idx : IVec ⟨2, ![18048, 1]⟩ 32) (upd : FVec Ideal ⟨2, ![18048, C]⟩ .f32)
    (hidx : ∀ a : Fin 18048, idx (ix2 a 0) = BitVec.ofNat 32 a.val) (r : Fin 18048) (c : Fin C) :
    Host.scatterAdd d x idx upd (ix2 r c) = x (ix2 r c) + upd (ix2 r c) := by
  show x (ix2 r c) + ∑ j ∈ Finset.univ.filter (fun j => d.resultIdx? j idx = some (ix2 r c)), upd j = _
  refine congrArg (x (ix2 r c) + ·) ?_
  have e : Finset.univ.filter (fun j => d.resultIdx? j idx = some (ix2 r c)) = {ix2 r c} := by
    ext k
    obtain ⟨a, b, rfl⟩ : ∃ (a : Fin 18048) (b : Fin C), k = ix2 a b := ⟨k 0, k 1, eq_ix2 k⟩
    rw [Finset.mem_filter, Finset.mem_singleton]
    refine (and_iff_right (Finset.mem_univ _)).trans ((lands d h1 h2 h3 h4 idx a r b c).trans ?_)
    rw [hidx, word_toInt]
    constructor
    · rintro ⟨h, h'⟩
      rw [h', show a = r from Fin.ext (by exact_mod_cast h)]
    · intro h
      have e0 := congrFun h 0
      have e1 := congrFun h 1
      exact ⟨congrArg (fun q : Fin 18048 => (q.val : Int)) e0, e1⟩
  rw [e, Finset.sum_singleton]

/-! ## The gathers -/

/-- The gather from a vector at a row number reads that entry. -/
theorem gather_word {α : Type} (x : S18048.Idx → α) (idx : IVec S32x1 32) (r : Fin 32) (p : Fin 18048)
    (h : idx (ix2 r 0) = BitVec.ofNat 32 p.val) :
    Host.gather gather_S18048_S32x1_S32_n_0_n_n_0_1_1 x idx (ix1 r) = x (ix1 p) := by
  refine congrArg x (funext fun q => Fin.ext ?_)
  match q with
  | ⟨0, _⟩ =>
    have e : gather_S18048_S32x1_S32_n_0_n_n_0_1_1.start (ix1 r) idx 0 = p.val := by
      unfold GatherDims.start
      refine (dif_pos (List.mem_singleton.mpr rfl)).trans ?_
      have hi : idx (gather_S18048_S32x1_S32_n_0_n_n_0_1_1.siIdx (ix1 r) ⟨0, by decide⟩) = BitVec.ofNat 32 p.val := by
        rw [← h]
        refine congrArg idx (funext fun q => Fin.ext ?_)
        match q with
        | ⟨0, _⟩ => rfl
        | ⟨1, _⟩ => rfl
      have h2 := p.isLt
      show min (idx (gather_S18048_S32x1_S32_n_0_n_n_0_1_1.siIdx (ix1 r) ⟨0, by decide⟩)).toInt.toNat (18048 - 1) = p.val
      rw [hi, word_toInt, Int.toNat_natCast]
      omega
    show gather_S18048_S32x1_S32_n_0_n_n_0_1_1.start (ix1 r) idx 0 + 0 + 0 = p.val
    rw [e]
    rfl

/-- The row by row gather from a matrix at a row's column number reads that entry of the row. -/
theorem gather_row_word {α : Type} (x : S32x18048.Idx → α) (idx : IVec S32x1x1 32) (r : Fin 32) (p : Fin 18048)
    (h : idx (ix3 r 0 0) = BitVec.ofNat 32 p.val) :
    Host.gather gather_S32x18048_S32x1x1_S32x1_n_1_0_0_1_2_11 x idx (ix2 r 0) = x (ix2 r p) := by
  refine congrArg x (funext fun q => Fin.ext ?_)
  match q with
  | ⟨0, _⟩ =>
    show 0 + r.val + 0 = r.val
    omega
  | ⟨1, _⟩ =>
    have e : gather_S32x18048_S32x1x1_S32x1_n_1_0_0_1_2_11.start (ix2 r 0) idx 1 = p.val := by
      unfold GatherDims.start
      refine (dif_pos (List.mem_singleton.mpr rfl)).trans ?_
      have hi : idx (gather_S32x18048_S32x1x1_S32x1_n_1_0_0_1_2_11.siIdx (ix2 r 0) ⟨0, by decide⟩) = BitVec.ofNat 32 p.val := by
        rw [← h]
        refine congrArg idx (funext fun q => Fin.ext ?_)
        match q with
        | ⟨0, _⟩ => rfl
        | ⟨1, _⟩ => rfl
        | ⟨2, _⟩ => rfl
      have h2 := p.isLt
      show min (idx (gather_S32x18048_S32x1x1_S32x1_n_1_0_0_1_2_11.siIdx (ix2 r 0) ⟨0, by decide⟩)).toInt.toNat (18048 - 1) = p.val
      rw [hi, word_toInt, Int.toNat_natCast]
      omega
    show gather_S32x18048_S32x1x1_S32x1_n_1_0_0_1_2_11.start (ix2 r 0) idx 1 + 0 + 0 = p.val
    rw [e]
    rfl

end Cert.Index

end
-- ==== Proof.RefEntropy.lean ====
/- What the reference computes against the memory bank: the logits after its scatters, the log-sum-exp of a row with the row
   maximum taken out where it is finite, the entry at the label, and so the two cross entropies. -/
module

public import proofs.«01_k».proof.Proof.Index
public import proofs.«01_k».proof.Proof.Losses

@[expose] public section

set_option maxRecDepth 16384

noncomputable section

namespace Cert.RefEntropy

open Cert.ReferenceIdeal Cert.ReferenceIdeal.Read Cert.Losses Cert.Index Idealize.ShloMosaic Idealize.ShloMosaic.TcCoe

variable (x0 : (⟨S32x4096, .f32⟩ : BufTy).Contents (Elt Ideal)) (x3 : (⟨S1x32x2, .i32⟩ : BufTy).Contents (Elt Ideal))
variable (x4 : (⟨S18048x4096, .f32⟩ : BufTy).Contents (Elt Ideal))

/-- The reference's logits are the named ones: division by the temperature is multiplication by its reciprocal. -/
theorem logit_eq (r : Fin 32) (j : Fin 18048) :
    val_main_v62 (F := Ideal) x0 x4 (ix2 r j) = logit (fun i k => x0 (ix2 i k)) (fun i k => x4 (ix2 i k)) r j := by
  unfold logit
  rw [← div_temp, ← lit_temp]
  pointwise [val_main_v62, val_main_v5, val_main_v4, val_main_v61, val_main_cst_14]

/-- The scatters' index words count the rows. -/
theorem count_word (a : Fin 18048) : val_main_v70 (F := Ideal) (ix2 a 0) = BitVec.ofNat 32 a.val := by
  refine Eq.trans ?_ (wrap_word a (IntOp.addi (BitVec.ofNat 32 a.val) 18048#32))
  pointwise [val_main_v70, val_main_v69, val_main_v68, val_main_v67, val_main_v66, val_main_v65, val_main_v3, val_main_c_16,
    val_main_c_17]

/-- Every row of the bank is counted once. -/
theorem count_eq (j : Fin 18048) : val_main_v80 (F := Ideal) (ix2 j 0) = ((1 : ℝ) : EReal) := by
  refine (scatter_rows scatter_S18048x1_S18048x1_S18048x1_1_0_0_1 rfl rfl rfl rfl _ _ _ (fun a => count_word a) j 0).trans ?_
  have e1 : val_main_v72 (F := Ideal) (ix2 j 0) = Ideal.ofBits .f32 0x00000000#32 := by
    pointwise [val_main_v72, val_main_cst_18]
  have e2 : val_main_v73 (F := Ideal) (ix2 j 0) = Ideal.ofBits .f32 0x3F800000#32 := by
    pointwise [val_main_v73, val_main_cst_19]
  rw [e1, e2, Ideal.ofBits_zero_f32, Ideal.ofBits_one_f32, zero_add]
  rfl

/-- After the scatter and the division by the counts the logits are what they were. -/
theorem gathered_logit (r : Fin 32) (j : Fin 18048) :
    val_main_v83 (F := Ideal) x0 x4 (ix2 r j) = logit (fun i k => x0 (ix2 i k)) (fun i k => x4 (ix2 i k)) r j := by
  have e0 : val_main_v83 (F := Ideal) x0 x4 (ix2 r j)
      = Ideal.div (val_main_v71 (F := Ideal) x0 x4 (ix2 j r)) (val_main_v80 (F := Ideal) (ix2 j 0)) := by
    pointwise [val_main_v83, val_main_v82, val_main_v81]
  have e1 : val_main_v71 (F := Ideal) x0 x4 (ix2 j r) = val_main_v63 (F := Ideal) (ix2 j r) + val_main_v64 (F := Ideal) x0 x4 (ix2 j r) :=
    scatter_rows scatter_S18048x32_S18048x1_S18048x32_1_0_0_1 rfl rfl rfl rfl _ _ _ (fun a => count_word a) j r
  have e2 : val_main_v63 (F := Ideal) (ix2 j r) = Ideal.ofBits .f32 0x00000000#32 := by
    pointwise [val_main_v63, val_main_cst_15]
  have e3 : val_main_v64 (F := Ideal) x0 x4 (ix2 j r) = val_main_v62 (F := Ideal) x0 x4 (ix2 r j) := by
    pointwise [val_main_v64]
  rw [e0, e1, e2, e3, count_eq, logit_eq, Ideal.ofBits_zero_f32, zero_add, Ideal.div_coe one_ne_zero, one_div, inv_one]
  exact mul_one _

/-- The second block's logits are zeros. -/
theorem zero_logit (r : Fin 32) (j : Fin 18048) : val_main_v116 (F := Ideal) (ix2 r j) = 0 := by
  have e0 : val_main_v116 (F := Ideal) (ix2 r j)
      = Ideal.div (Ideal.ofBits .f32 0x00000000#32) (val_main_v112 (F := Ideal) (ix2 j 0)) := by
    pointwise [val_main_v116, val_main_v115, val_main_v114, val_main_v113, val_main_cst_32]
  have e1 : val_main_v112 (F := Ideal) = val_main_v80 (F := Ideal) := rfl
  rw [e0, e1, count_eq, Ideal.ofBits_zero_f32, Ideal.div_coe one_ne_zero, zero_mul]

/-! ## The log-sum-exp -/

/-- The select that guards a row maximum gives a real. -/
theorem guard_real (m : EReal) : ∃ c : ℝ, Scalar.select (Ideal.cmp .olt (max m (-m)) ⊤) m 0 = (c : EReal) := by
  obtain ⟨c, hc⟩ := guarded_real m
  refine ⟨c, hc ▸ ?_⟩
  by_cases h : max m (-m) < ⊤
  · rw [if_pos h]; simp [Ideal.cmp, Scalar.select, h]
  · rw [if_neg h]; simp [Ideal.cmp, Scalar.select, h]

theorem shift_real (r : Fin 32) : ∃ c : ℝ, val_main_v89 (F := Ideal) x0 x4 (ix2 r 0) = (c : EReal) := by
  obtain ⟨c, hc⟩ := guard_real (val_main_v85 (F := Ideal) x0 x4 (ix2 r 0))
  refine ⟨c, hc ▸ ?_⟩
  rw [← lit_top, ← lit_zero]
  pointwise [val_main_v89, val_main_v88, val_main_v87, val_main_v86, val_main_cst_23, val_main_call3_v1, val_main_call3_v0, val_main_cst_24]
  rw [show id (constant (F := Ideal) S_ .f32 0x00000000#32) ix0 = 0 from lit_zero]
  rfl

theorem shift_real₁ (r : Fin 32) : ∃ c : ℝ, val_main_v122 (F := Ideal) (ix2 r 0) = (c : EReal) := by
  obtain ⟨c, hc⟩ := guard_real (val_main_v118 (F := Ideal) (ix2 r 0))
  refine ⟨c, hc ▸ ?_⟩
  rw [← lit_top, ← lit_zero]
  pointwise [val_main_v122, val_main_v121, val_main_v120, val_main_v119, val_main_cst_34, val_main_call5_v1, val_main_call5_v0, val_main_cst_35]
  rw [show id (constant (F := Ideal) S_ .f32 0x00000000#32) ix0 = 0 from lit_zero]
  rfl

/-- A row's sum of shifted exponentials. -/
theorem sum_eq (r : Fin 32) : val_main_v93 (F := Ideal) x0 x4 (ix1 r) = ∑ j : Fin 18048, Ideal.exp
    (val_main_v83 (F := Ideal) x0 x4 (ix2 r j) - val_main_v89 (F := Ideal) x0 x4 (ix2 r 0)) := by
  rw [val_main_v93_apply, show val_main_cst_25 (F := Ideal) (Shape.Idx.first Gen.h_S_) = 0 from lit_zero, zero_add]
  refine Finset.sum_congr rfl fun j _ => ?_
  have e : idx_main_v93 (ix1 r) j = ix2 r j := funext fun a => Fin.ext (by match a with | ⟨0, _⟩ => rfl | ⟨1, _⟩ => rfl)
  rw [e]
  pointwise [val_main_v92, val_main_v91, val_main_v90]

/-- The second block's. -/
theorem sum_eq₁ (r : Fin 32) : val_main_v126 (F := Ideal) (ix1 r) = ∑ j : Fin 18048, Ideal.exp
    (val_main_v116 (F := Ideal) (ix2 r j) - val_main_v122 (F := Ideal) (ix2 r 0)) := by
  rw [val_main_v126_apply, show val_main_cst_36 (F := Ideal) (Shape.Idx.first Gen.h_S_) = 0 from lit_zero, zero_add]
  refine Finset.sum_congr rfl fun j _ => ?_
  have e : idx_main_v126 (ix1 r) j = ix2 r j := funext fun a => Fin.ext (by match a with | ⟨0, _⟩ => rfl | ⟨1, _⟩ => rfl)
  rw [e]
  pointwise [val_main_v125, val_main_v124, val_main_v123]

/-- The reference's log-sum-exp is the log of the row's sum of exponentials. -/
theorem lse_eq (r : Fin 32) : val_main_v97 (F := Ideal) x0 x4 (ix1 r)
    = Ideal.log (∑ j, Ideal.exp (logit (fun i k => x0 (ix2 i k)) (fun i k => x4 (ix2 i k)) r j)) := by
  obtain ⟨c, hc⟩ := shift_real x0 x4 r
  rw [← lse_shift _ c, ← hc]
  simp only [← gathered_logit]
  rw [← sum_eq]
  pointwise [val_main_v97, val_main_v96, val_main_v95, val_main_v94]

/-- The second block's log-sum-exp is that of a row of zeros. -/
theorem lse_eq₁ (r : Fin 32) : val_main_v130 (F := Ideal) (ix1 r) = Ideal.log (∑ _j : Fin 18048, Ideal.exp (0 : EReal)) := by
  obtain ⟨c, hc⟩ := shift_real₁ r
  rw [← lse_shift _ c, ← hc]
  have e : val_main_v130 (F := Ideal) (ix1 r) = Ideal.log (val_main_v126 (F := Ideal) (ix1 r))
      + val_main_v122 (F := Ideal) (ix2 r 0) := by
    pointwise [val_main_v130, val_main_v129, val_main_v128, val_main_v127]
  rw [e, sum_eq₁]
  simp only [zero_logit]

/-! ## The entry at the label -/

/-- The labels are row numbers of the bank. -/
def Labels (p : Fin 32 → Fin 18048) : Prop := ∀ r, x3 (ix3 0 r 0) = BitVec.ofNat 32 (p r).val

variable (p : Fin 32 → Fin 18048) (hp : Labels x3 p)

include hp

/-- The targets are the labels. -/
theorem target_eq (r : Fin 32) : val_main_v12 (F := Ideal) x3 (ix1 r) = BitVec.ofNat 32 (p r).val := by
  have e : val_main_v11 (F := Ideal) x3 (ix2 r 0) = BitVec.ofNat 32 (p r).val := by
    refine Eq.trans ?_ (wrap_word (p r) (IntOp.addi (BitVec.ofNat 32 (p r).val) 18048#32))
    rw [← hp r]
    pointwise [val_main_v11, val_main_v10, val_main_v9, val_main_v8, val_main_v7, val_main_v6, val_main_v2, val_main_v1,
      val_main_v0, val_main_c, val_main_c_0]
  exact (gather_word _ _ r (p r) e).trans rfl

/-- The word at which the label's entry is taken is the label. -/
theorem pick_word (r : Fin 32) : val_main_call4_v5 (F := Ideal) x3 (ix3 r 0 0) = BitVec.ofNat 32 (p r).val := by
  refine Eq.trans ?_ (wrap_word (p r) (IntOp.addi (BitVec.ofNat 32 (p r).val) 18048#32))
  rw [← target_eq x3 p hp r]
  pointwise [val_main_call4_v5, val_main_call4_v4, val_main_call4_v3, val_main_call4_v2, val_main_call4_v1, val_main_call4_v0,
    val_main_call4_c, val_main_call4_c_0, val_main_v98]

/-- The bounds' check passes. -/
theorem check_eq (r : Fin 32) : val_main_call4_v12 (F := Ideal) x3 (ix2 r 0) = 1#1 := by
  have e : val_main_call4_v11 (F := Ideal) x3 (ix3 r 0 0) = 1#1 := by
    refine Eq.trans ?_ (bounds_word (p r))
    rw [← pick_word x3 p hp r]
    pointwise [val_main_call4_v11, val_main_call4_v10, val_main_call4_v9, val_main_call4_v8, val_main_call4_v7, val_main_call4_v6,
      val_main_call4_c_1, val_main_call4_c_2]
  have f : val_main_call4_v12 (F := Ideal) x3 (ix2 r 0)
      = Finset.fold IntOp.andi 1#1 (fun q : Fin 1 => val_main_call4_v11 (F := Ideal) x3 (ix3 r 0 q)) Finset.univ := by
    pointwise [val_main_call4_v12, val_main_call4_c_3]
  rw [f, Finset.univ_unique, Finset.fold_singleton]
  exact (congrArg (fun w => IntOp.andi w 1#1) e).trans rfl

/-- The entry taken from the logits is the labelled logit. -/
theorem pick_eq (r : Fin 32) : val_main_v100 (F := Ideal) x0 x3 x4 (ix1 r)
    = logit (fun i k => x0 (ix2 i k)) (fun i k => x4 (ix2 i k)) r (p r) := by
  have e : val_main_v100 (F := Ideal) x0 x3 x4 (ix1 r) = Scalar.select (val_main_call4_v12 (F := Ideal) x3 (ix2 r 0))
      (val_main_call4_v13 (F := Ideal) x0 x3 x4 (ix2 r 0)) (val_main_call4_v14 (F := Ideal) (ix2 r 0)) := by
    pointwise [val_main_v100, val_main_v99]
  have g : val_main_call4_v13 (F := Ideal) x0 x3 x4 (ix2 r 0) = val_main_v83 (F := Ideal) x0 x4 (ix2 r (p r)) := by
    unfold val_main_call4_v13
    generalize val_main_v83 (F := Ideal) x0 x4 = v
    exact gather_row_word v (val_main_call4_v5 (F := Ideal) x3) r (p r) (pick_word x3 p hp r)
  rw [e, ← gathered_logit, ← g]
  exact WordCmp.select_of_eq_one (check_eq x3 p hp r) _ _

/-- The entry taken from the zeros is zero. -/
theorem pick_eq₁ (r : Fin 32) : val_main_v133 (F := Ideal) x3 (ix1 r) = 0 := by
  have e : val_main_v133 (F := Ideal) x3 (ix1 r) = Scalar.select (val_main_call6_v12 (F := Ideal) x3 (ix2 r 0))
      (val_main_call6_v13 (F := Ideal) x3 (ix2 r 0)) (val_main_call6_v14 (F := Ideal) (ix2 r 0)) := by
    pointwise [val_main_v133, val_main_v132]
  have f : val_main_call6_v12 (F := Ideal) x3 = val_main_call4_v12 (F := Ideal) x3 := rfl
  have f5 : val_main_call6_v5 (F := Ideal) x3 = val_main_call4_v5 (F := Ideal) x3 := rfl
  have g : val_main_call6_v13 (F := Ideal) x3 (ix2 r 0) = val_main_v116 (F := Ideal) (ix2 r (p r)) := by
    unfold val_main_call6_v13
    rw [f5]
    generalize val_main_v116 (F := Ideal) = v
    exact gather_row_word v (val_main_call4_v5 (F := Ideal) x3) r (p r) (pick_word x3 p hp r)
  rw [e, f, ← zero_logit r (p r), ← g]
  exact WordCmp.select_of_eq_one (check_eq x3 p hp r) _ _

/-! ## The cross entropies -/

/-- The first cross entropy is the named one. -/
theorem entropy_eq : val_main_v103 (F := Ideal) x0 x3 x4 ix0
    = crossEntropy (logit (fun i k => x0 (ix2 i k)) (fun i k => x4 (ix2 i k))) p := by
  unfold crossEntropy
  simp only [← lse_eq, ← pick_eq x0 x3 x4 p hp, ← lit_batch]
  pointwise [val_main_v103, val_main_v102, val_main_v101, val_main_cst_26, val_main_cst_27]

/-- The second cross entropy is the log of the bank's length. -/
theorem entropy_eq₁ : val_main_v136 (F := Ideal) x3 ix0 = ((Real.log 18048 : ℝ) : EReal) := by
  have e : val_main_v136 (F := Ideal) x3 ix0 = Ideal.div (∑ r : Fin 32, (val_main_v130 (F := Ideal) (ix1 r)
      - val_main_v133 (F := Ideal) x3 (ix1 r))) (Ideal.ofBits .f32 0x42000000#32) := by
    pointwise [val_main_v136, val_main_v135, val_main_v134, val_main_cst_37, val_main_cst_38]
  rw [e, lit_batch, ← zeros_loss]
  refine congrArg (fun a => Ideal.div a ((32 : ℝ) : EReal)) (Finset.sum_congr rfl fun r _ => ?_)
  rw [lse_eq₁, pick_eq₁ x3 p hp]

end Cert.RefEntropy

end
-- ==== Proof.Equation.lean ====
/- The algebraic claim: what the precondition says of the arguments, the reference's whole loss as the named one, and the two
   programs ending with the same scalar. -/
module

public import proofs.«01_k».proof.Proof.Frames
public import proofs.«01_k».proof.Proof.KernelValue
public import proofs.«01_k».proof.Proof.RefSmall
public import proofs.«01_k».proof.Proof.RefEntropy
public import Idealize.ShloMosaic.Lib.ReduceAll

@[expose] public section

noncomputable section

namespace Cert.Equation

open Idealize.ShloMosaic Idealize.ShloMosaic.TcCoe Idealize.SL.Sem Cert.Losses

section Reference

open Cert.ReferenceIdeal Cert.ReferenceIdeal.Read Cert.RefSmall

/-- The reference's result is the named loss, when one of the feature arrays is real and the labels count rows of the memory
    bank. -/
theorem reference_eq (x0 x1 x2 : (⟨S32x4096, .f32⟩ : BufTy).Contents (Elt Ideal))
    (x3 : (⟨S1x32x2, .i32⟩ : BufTy).Contents (Elt Ideal)) (x4 : (⟨S18048x4096, .f32⟩ : BufTy).Contents (Elt Ideal))
    (p : Fin 32 → Fin 18048) (hp : RefEntropy.Labels x3 p) (h : (∀ i k, ∃ c : ℝ, rows x1 i k = (c : EReal)) ∨ ∀ i k, ∃ c : ℝ, rows x2 i k = (c : EReal)) :
    val_main_v141 (F := Ideal) x0 x1 x2 x3 x4 ix0
      = Losses.total (fun i k => x0 (ix2 i k)) (rows x1) (rows x2) p (fun i k => x4 (ix2 i k)) := by
  have e : val_main_v141 (F := Ideal) x0 x1 x2 x3 x4 ix0
      = Ideal.div (val_main_v103 (F := Ideal) x0 x3 x4 ix0 + val_main_v136 (F := Ideal) x3 ix0)
          (Ideal.ofBits .f32 0x40000000#32) + val_main_v24 (F := Ideal) x1 x2 ix0 + val_main_v56 (F := Ideal) x1 x2 ix0
        + val_main_v60 (F := Ideal) x1 x2 ix0 := rfl
  have k : val_main_v56 (F := Ideal) x1 x2 ix0 + val_main_v56 (F := Ideal) x2 x1 ix0
      = kl (logSoft (gram (rows x2))) (logSoft (gram (rows x1))) + kl (logSoft (gram (rows x1))) (logSoft (gram (rows x2))) :=
    h.elim (fun h1 => kl_sum x1 x2 h1) fun h2 => (add_comm _ _).trans ((kl_sum x2 x1 h2).trans (add_comm _ _))
  rw [e, RefEntropy.entropy_eq x0 x3 x4 p hp, RefEntropy.entropy_eq₁ x3 p hp, lit_two, div_two, cos_eq, kl_same, add_assoc, k]
  unfold Losses.total small
  rw [add_assoc, add_assoc]

end Reference

section Conditions

open Cert.KernelIdeal

variable (m : (ℓ : Loc nD τ sig) → Buf (Elt Ideal) ℓ)

/-- An extended real below infinity in absolute value is a real. -/
theorem real_of_abs_lt {x : EReal} (h : Ideal.cmp .olt (max x (-x)) (Ideal.ofBits .f32 0x7F800000#32) = 1#1) :
    ∃ c : ℝ, x = (c : EReal) := by
  rw [lit_top] at h
  induction x with
  | bot => simp [Ideal.cmp] at h
  | top => simp [Ideal.cmp] at h
  | coe c => exact ⟨c, rfl⟩

/-- A word that is at least 0 and below the row count, both signed, counts a row. -/
theorem row_of_word {w : BitVec 32} (h : IntOp.andi (IntOp.cmpi .sge w 0#32) (IntOp.cmpi .slt w 18048#32) = 1#1) :
    ∃ p : Fin 18048, w = BitVec.ofNat 32 p.val := by
  obtain ⟨h0, h1⟩ := IntOp.andi_eq_one.1 h
  rw [WordCmp.cmpi_sge_eq] at h0
  rw [WordCmp.cmpi_slt_eq] at h1
  have a0 : (0#32).toInt ≤ w.toInt := by
    by_contra hc
    rw [decide_eq_false hc] at h0
    exact absurd h0 (by decide)
  have a1 : w.toInt < (18048#32).toInt := by
    by_contra hc
    rw [decide_eq_false hc] at h1
    exact absurd h1 (by decide)
  have z0 : (0#32).toInt = 0 := by decide
  have z1 : (18048#32).toInt = 18048 := by decide
  rw [z0] at a0
  rw [z1] at a1
  have hw : w.toNat < 2 ^ 31 := (WordCmp.toInt_nonneg_iff_lt_half w).1 a0
  have hn : (w.toNat : Int) < 18048 := (WordCmp.toInt_eq_toNat_of_lt_half hw) ▸ a1
  exact ⟨⟨w.toNat, by omega⟩, by simp⟩

variable {m} (h : Cert.Pre_KernelIdeal_one_finite_and_labels_in_range
  (hPre_one_finite_and_labels_in_range := Cert.Frames.preFacts) m) (c : Dev nD)

include h

/-- One of the kernel's feature arrays is real. -/
theorem one_real : (∀ i k, ∃ a : ℝ, KernelValue.feat1 m c i k = (a : EReal))
    ∨ ∀ i k, ∃ a : ℝ, KernelValue.feat m c i k = (a : EReal) := by
  rcases IntOp.ori_eq_one.1 (congrFun (h c).1 ix0) with h1 | h2
  · exact Or.inl fun i k => real_of_abs_lt (Host.reduce_andi_all _ _ _ _ _ h1 (ix2 i k))
  · exact Or.inr fun i k => real_of_abs_lt (Host.reduce_andi_all _ _ _ _ _ h2 (ix2 i k))

/-- Every label word counts a row of the memory bank. -/
theorem labels : ∃ p : Fin 32 → Fin 18048, KernelValue.Labels m c p := by
  have key : ∀ r : Fin 32, ∃ p : Fin 18048, m ((c.tc : Thread nD τ).loc main_arg3) (ix3 0 r 0) = BitVec.ofNat 32 p.val := by
    intro r
    have hr := congrFun (h c).2 (ix2 0 r)
    refine row_of_word (Eq.trans ?_ hr)
    pointwise [Cert.Pre_one_finite_and_labels_in_range.fn]
  exact ⟨fun r => (key r).choose, fun r => (key r).choose_spec⟩

end Conditions

/-- From memories that meet the precondition and agree on the arguments, both programs end with the same scalar. -/
theorem algebraic : Cert.algebraic_KernelIdeal_ReferenceIdeal_pre_one_finite_and_labels_in_range
    (hKernelIdeal := Cert.KernelIdeal.Gen.facts) (hReferenceIdeal := Cert.ReferenceIdeal.Gen.facts)
    (hPre_one_finite_and_labels_in_range := Cert.Frames.preFacts) := by
  intro m g m' g' hpre hag
  refine ⟨_, (θ_run _ _ _).mono (fun r h c => ⟨h.1 c, h.2 c⟩) (Cert.Outcome.run m g), (θ_run _ _ _).mono
    (fun r h c => ⟨(h c).1.trans ?_, (h c).2⟩) (Cert.ReferenceIdeal.Value.run m' g')⟩
  refine (Cert.ReferenceIdeal.Read.val_main_v141_eq (F := Ideal) (StableHlo.launchContents m' c)).trans ?_
  repeat rw [StableHlo.launchContents_devRef]
  obtain ⟨a0, a1, a2, a3, a4⟩ := hag c
  rw [a0, a1, a2, a3, a4]
  obtain ⟨p, hp⟩ := labels hpre c
  funext i
  have hi : i = ix0 := Subsingleton.elim _ _
  subst hi
  refine (reference_eq _ _ _ _ _ p hp (one_real hpre c)).trans (Eq.trans
    (KernelValue.total_eq m c p hp).symm ?_)
  pointwise []

end Cert.Equation

end
-- ==== Proof.lean ====
/- The certificate: the three programs run and leave their arguments unchanged, naming the inverse temperature changes
   nothing but that constant, and the kernel and the reference end with the same loss. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equation

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Frames.preFacts,
    Cert.Frames.kernel, Cert.Frames.kernelIdeal, Cert.Frames.kernelIdealPre, Cert.Frames.referenceIdeal,
    Cert.Frames.referenceIdealPre,
    IdealRules.named_const.statement Cert.KernelIdeal.κ "inv_temp" .f32 0x41A00000#32 _
      (by unfold Cert.KernelIdeal.κ; rfl),
    Cert.Equation.algebraic⟩

end Cert.Proof

end
